-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed_KernelIdeal [hPre_well_posed_KernelIdeal : Cert.Pre_well_posed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed_ReferenceIdeal [hPre_well_posed_ReferenceIdeal : Cert.Pre_well_posed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed_KernelIdeal [hKernelIdeal : Cert.KernelIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed_ReferenceIdeal [hReferenceIdeal : Cert.ReferenceIdeal.Facts] [hPre_well_posed_ReferenceIdeal : Cert.Pre_well_posed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_well_posed_KernelIdeal [hKernelIdeal : Cert.KernelIdeal.Facts] [hReferenceIdeal : Cert.ReferenceIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![128, 16, 8, 64]⟩ (Layout.meshBlock [2, 2, 2] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![128, 16, 8, 64]⟩ (Layout.meshBlock [2, 2, 2] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed_KernelIdeal : Cert.Pre_well_posed_KernelIdeal.Facts) (hPre_well_posed_ReferenceIdeal : Cert.Pre_well_posed_ReferenceIdeal.Facts),
    quiescent_Kernel (hKernel := hKernel)
    ∧ quiescent_KernelIdeal (hKernelIdeal := hKernelIdeal)
    ∧ quiescent_KernelIdeal_pre_well_posed_KernelIdeal (hKernelIdeal := hKernelIdeal) (hPre_well_posed_KernelIdeal := hPre_well_posed_KernelIdeal)
    ∧ quiescent_ReferenceIdeal (hReferenceIdeal := hReferenceIdeal)
    ∧ quiescent_ReferenceIdeal_pre_well_posed_ReferenceIdeal (hReferenceIdeal := hReferenceIdeal) (hPre_well_posed_ReferenceIdeal := hPre_well_posed_ReferenceIdeal)
    ∧ preserves_Kernel_KernelIdeal
    ∧ algebraic_KernelIdeal_ReferenceIdeal_pre_well_posed_KernelIdeal (hKernelIdeal := hKernelIdeal) (hReferenceIdeal := hReferenceIdeal) (hPre_well_posed_KernelIdeal := hPre_well_posed_KernelIdeal)
-- ==== Pre_well_posed_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S_ : Shape := ⟨0, ![]⟩
abbrev S8x1 : Shape := ⟨2, ![8, 1]⟩

class Facts : Prop where
  bitsLt_bf16_f32 : FTy.bits .bf16 < FTy.bits .f32
  bcast_S_S8x1x8x64 : S_.BroadcastsInDim S8x1x8x64 (![] : Fin 0 → Fin S8x1x8x64.rank)
  bcast_S_S64x16x8x64 : S_.BroadcastsInDim S64x16x8x64 (![] : Fin 0 → Fin S64x16x8x64.rank)
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x1x8x64_S_d0_1_2_3 : S8x1x8x64.ReducesTo [0, 1, 2, 3] S_
  h_S_ : 0 < S_.numel
  reducesTo_S64x16x8x64_S_d0_1_2_3 : S64x16x8x64.ReducesTo [0, 1, 2, 3] S_
  bcast_S_S8 : S_.BroadcastsInDim S8 (![] : Fin 0 → Fin S8.rank)
  reducesTo_S8_S_d0 : S8.ReducesTo [0] S_
  reducesTo_S8x64_S_d0_1 : S8x64.ReducesTo [0, 1] S_

variable [Facts]

def fn_part1 {F : FTy → Type} [FloatOps F] (main_arg4 : IVec S8 32) (main_v8 : IVec S64x16x8x64 1) (main_v17 : IVec S8x64 1) (main_v18 : IVec S_ 1) : IVec S_ 1 :=
  let main_c_3 : IVec S_ 1 := constantI S_ 1 1#1
  let main_v19 : IVec S_ 1 := (fun x v => Host.reduce IntOp.andi x v reducesTo_S64x16x8x64_S_d0_1_2_3 h_S_) main_v8 main_c_3
  let main_v20 : IVec S_ 1 := andi main_v18 main_v19
  let main_c_4 : IVec S_ 32 := constantI S_ 32 1#32
  let main_v21 : IVec S8 32 := broadcastInDim S8 ![] bcast_S_S8 main_c_4
  let main_v22 : IVec S8 1 := cmpi .sge main_arg4 main_v21
  let main_c_5 : IVec S_ 1 := constantI S_ 1 1#1
  let main_v23 : IVec S_ 1 := (fun x v => Host.reduce IntOp.andi x v reducesTo_S8_S_d0 h_S_) main_v22 main_c_5
  let main_v24 : IVec S_ 1 := andi main_v20 main_v23
  let main_c_6 : IVec S_ 1 := constantI S_ 1 1#1
  let main_v25 : IVec S_ 1 := (fun x v => Host.reduce IntOp.andi x v reducesTo_S8x64_S_d0_1 h_S_) main_v17 main_c_6
  let main_v26 : IVec S_ 1 := andi main_v24 main_v25
  main_v26

def fn {F : FTy → Type} [FloatOps F] (main_arg0 : FVec F S8x1x8x64 .bf16) (main_arg1 : FVec F S64x16x8x64 .bf16) (main_arg2 : FVec F S64x16x8x64 .bf16) (main_arg3 : IVec S8x64 32) (main_arg4 : IVec S8 32) : IVec S_ 1 :=
  let main_v0 : IVec S8x64 32 := iotaInDim S8x64 32 1
  let main_v1 : FVec F S8x1x8x64 .f32 := (extf .f32 · bitsLt_bf16_f32) main_arg0
  let main_v2 : FVec F S8x1x8x64 .f32 := Host.absf main_v1
  let main_cst : FVec F S_ .f32 := constant S_ .f32 0x7F800000#32
  let main_v3 : FVec F S8x1x8x64 .f32 := broadcastInDim S8x1x8x64 ![] bcast_S_S8x1x8x64 main_cst
  let main_v4 : IVec S8x1x8x64 1 := cmpf .olt main_v2 main_v3
  let main_v5 : FVec F S64x16x8x64 .f32 := (extf .f32 · bitsLt_bf16_f32) main_arg1
  let main_v6 : FVec F S64x16x8x64 .f32 := Host.absf main_v5
  let main_cst_0 : FVec F S_ .f32 := constant S_ .f32 0x7F800000#32
  let main_v7 : FVec F S64x16x8x64 .f32 := broadcastInDim S64x16x8x64 ![] bcast_S_S64x16x8x64 main_cst_0
  let main_v8 : IVec S64x16x8x64 1 := cmpf .olt main_v6 main_v7
  let main_v9 : IVec S8x1 32 := broadcastInDim S8x1 ![0] bcast_S8_S8x1_0 main_arg4
  let main_v10 : IVec S8x64 32 := broadcastInDim S8x64 ![0, 1] bcast_S8x1_S8x64_0_1 main_v9
  let main_v11 : IVec S8x64 1 := cmpi .sge main_v0 main_v10
  let main_c : IVec S_ 32 := constantI S_ 32 0#32
  let main_v12 : IVec S8x64 32 := broadcastInDim S8x64 ![] bcast_S_S8x64 main_c
  let main_v13 : IVec S8x64 1 := cmpi .sge main_arg3 main_v12
  let main_c_1 : IVec S_ 32 := constantI S_ 32 128#32
  let main_v14 : IVec S8x64 32 := broadcastInDim S8x64 ![] bcast_S_S8x64 main_c_1
  let main_v15 : IVec S8x64 1 := cmpi .slt main_arg3 main_v14
  let main_v16 : IVec S8x64 1 := andi main_v13 main_v15
  let main_v17 : IVec S8x64 1 := ori main_v11 main_v16
  let main_c_2 : IVec S_ 1 := constantI S_ 1 1#1
  let main_v18 : IVec S_ 1 := (fun x v => Host.reduce IntOp.andi x v reducesTo_S8x1x8x64_S_d0_1_2_3 h_S_) main_v4 main_c_2
  fn_part1 (F := F) main_arg4 main_v8 main_v17 main_v18
-- ==== Pre_well_posed_ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S_ : Shape := ⟨0, ![]⟩
abbrev S8x1 : Shape := ⟨2, ![8, 1]⟩

class Facts : Prop where
  bitsLt_bf16_f32 : FTy.bits .bf16 < FTy.bits .f32
  bcast_S_S8x1x8x64 : S_.BroadcastsInDim S8x1x8x64 (![] : Fin 0 → Fin S8x1x8x64.rank)
  bcast_S_S128x16x8x64 : S_.BroadcastsInDim S128x16x8x64 (![] : Fin 0 → Fin S128x16x8x64.rank)
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x1x8x64_S_d0_1_2_3 : S8x1x8x64.ReducesTo [0, 1, 2, 3] S_
  h_S_ : 0 < S_.numel
  reducesTo_S128x16x8x64_S_d0_1_2_3 : S128x16x8x64.ReducesTo [0, 1, 2, 3] S_
  bcast_S_S8 : S_.BroadcastsInDim S8 (![] : Fin 0 → Fin S8.rank)
  reducesTo_S8_S_d0 : S8.ReducesTo [0] S_
  reducesTo_S8x64_S_d0_1 : S8x64.ReducesTo [0, 1] S_

variable [Facts]

def fn_part1 {F : FTy → Type} [FloatOps F] (main_arg4 : IVec S8 32) (main_v8 : IVec S128x16x8x64 1) (main_v17 : IVec S8x64 1) (main_v18 : IVec S_ 1) : IVec S_ 1 :=
  let main_c_3 : IVec S_ 1 := constantI S_ 1 1#1
  let main_v19 : IVec S_ 1 := (fun x v => Host.reduce IntOp.andi x v reducesTo_S128x16x8x64_S_d0_1_2_3 h_S_) main_v8 main_c_3
  let main_v20 : IVec S_ 1 := andi main_v18 main_v19
  let main_c_4 : IVec S_ 32 := constantI S_ 32 1#32
  let main_v21 : IVec S8 32 := broadcastInDim S8 ![] bcast_S_S8 main_c_4
  let main_v22 : IVec S8 1 := cmpi .sge main_arg4 main_v21
  let main_c_5 : IVec S_ 1 := constantI S_ 1 1#1
  let main_v23 : IVec S_ 1 := (fun x v => Host.reduce IntOp.andi x v reducesTo_S8_S_d0 h_S_) main_v22 main_c_5
  let main_v24 : IVec S_ 1 := andi main_v20 main_v23
  let main_c_6 : IVec S_ 1 := constantI S_ 1 1#1
  let main_v25 : IVec S_ 1 := (fun x v => Host.reduce IntOp.andi x v reducesTo_S8x64_S_d0_1 h_S_) main_v17 main_c_6
  let main_v26 : IVec S_ 1 := andi main_v24 main_v25
  main_v26

def fn {F : FTy → Type} [FloatOps F] (main_arg0 : FVec F S8x1x8x64 .bf16) (main_arg1 : FVec F S128x16x8x64 .bf16) (main_arg2 : FVec F S128x16x8x64 .bf16) (main_arg3 : IVec S8x64 32) (main_arg4 : IVec S8 32) : IVec S_ 1 :=
  let main_v0 : IVec S8x64 32 := iotaInDim S8x64 32 1
  let main_v1 : FVec F S8x1x8x64 .f32 := (extf .f32 · bitsLt_bf16_f32) main_arg0
  let main_v2 : FVec F S8x1x8x64 .f32 := Host.absf main_v1
  let main_cst : FVec F S_ .f32 := constant S_ .f32 0x7F800000#32
  let main_v3 : FVec F S8x1x8x64 .f32 := broadcastInDim S8x1x8x64 ![] bcast_S_S8x1x8x64 main_cst
  let main_v4 : IVec S8x1x8x64 1 := cmpf .olt main_v2 main_v3
  let main_v5 : FVec F S128x16x8x64 .f32 := (extf .f32 · bitsLt_bf16_f32) main_arg1
  let main_v6 : FVec F S128x16x8x64 .f32 := Host.absf main_v5
  let main_cst_0 : FVec F S_ .f32 := constant S_ .f32 0x7F800000#32
  let main_v7 : FVec F S128x16x8x64 .f32 := broadcastInDim S128x16x8x64 ![] bcast_S_S128x16x8x64 main_cst_0
  let main_v8 : IVec S128x16x8x64 1 := cmpf .olt main_v6 main_v7
  let main_v9 : IVec S8x1 32 := broadcastInDim S8x1 ![0] bcast_S8_S8x1_0 main_arg4
  let main_v10 : IVec S8x64 32 := broadcastInDim S8x64 ![0, 1] bcast_S8x1_S8x64_0_1 main_v9
  let main_v11 : IVec S8x64 1 := cmpi .sge main_v0 main_v10
  let main_c : IVec S_ 32 := constantI S_ 32 0#32
  let main_v12 : IVec S8x64 32 := broadcastInDim S8x64 ![] bcast_S_S8x64 main_c
  let main_v13 : IVec S8x64 1 := cmpi .sge main_arg3 main_v12
  let main_c_1 : IVec S_ 32 := constantI S_ 32 128#32
  let main_v14 : IVec S8x64 32 := broadcastInDim S8x64 ![] bcast_S_S8x64 main_c_1
  let main_v15 : IVec S8x64 1 := cmpi .slt main_arg3 main_v14
  let main_v16 : IVec S8x64 1 := andi main_v13 main_v15
  let main_v17 : IVec S8x64 1 := ori main_v11 main_v16
  let main_c_2 : IVec S_ 1 := constantI S_ 1 1#1
  let main_v18 : IVec S_ 1 := (fun x v => Host.reduce IntOp.andi x v reducesTo_S8x1x8x64_S_d0_1_2_3 h_S_) main_v4 main_c_2
  fn_part1 (F := F) main_arg4 main_v8 main_v17 main_v18
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S72x64 : Shape := ⟨2, ![72, 64]⟩
abbrev S_ : Shape := ⟨0, ![]⟩
abbrev S1 : Shape := ⟨1, ![1]⟩
abbrev S8x1 : Shape := ⟨2, ![8, 1]⟩
abbrev S64x1x1 : Shape := ⟨3, ![64, 1, 1]⟩
abbrev S1x8x64 : Shape := ⟨3, ![1, 8, 64]⟩
abbrev S64x8x64 : Shape := ⟨3, ![64, 8, 64]⟩
abbrev S64x8 : Shape := ⟨2, ![64, 8]⟩
abbrev S64x1x8 : Shape := ⟨3, ![64, 1, 8]⟩
abbrev S64x16x8 : Shape := ⟨3, ![64, 16, 8]⟩
abbrev S1024x8 : Shape := ⟨2, ![1024, 8]⟩
abbrev S1024x64 : Shape := ⟨2, ![1024, 64]⟩
abbrev S8x8x64 : Shape := ⟨3, ![8, 8, 64]⟩
abbrev S8x64x8 : Shape := ⟨3, ![8, 64, 8]⟩
abbrev S512x8 : Shape := ⟨2, ![512, 8]⟩
abbrev S512x64 : Shape := ⟨2, ![512, 64]⟩
abbrev S1024x512 : Shape := ⟨2, ![1024, 512]⟩
abbrev S64 : Shape := ⟨1, ![64]⟩
abbrev S1x64 : Shape := ⟨2, ![1, 64]⟩
abbrev S64x64 : Shape := ⟨2, ![64, 64]⟩
abbrev S6x64 : Shape := ⟨2, ![6, 64]⟩
abbrev S8x1x1x64 : Shape := ⟨4, ![8, 1, 1, 64]⟩

abbrev nBuf : Space → Nat
  | .hbm => 6
  | .vmem => 7
  | .smem => 1
  | _ => 0

abbrev bufTy : (tb : Table) → Fin (tcTables nBuf tb) → BufTy
  | .hbm, ⟨0, _⟩ => ⟨S8x1x8x64, .bf16⟩
  | .hbm, ⟨1, _⟩ => ⟨S64x16x8x64, .bf16⟩
  | .hbm, ⟨2, _⟩ => ⟨S64x16x8x64, .bf16⟩
  | .hbm, ⟨3, _⟩ => ⟨S8x64, .i32⟩
  | .hbm, ⟨4, _⟩ => ⟨S8, .i32⟩
  | .hbm, ⟨5, _⟩ => ⟨S8x1x8x64, .f32⟩
  | .local _ .vmem, ⟨0, _⟩ => ⟨S8x1x8x64, .bf16⟩
  | .local _ .vmem, ⟨1, _⟩ => ⟨S64x16x8x64, .bf16⟩
  | .local _ .vmem, ⟨2, _⟩ => ⟨S64x16x8x64, .bf16⟩
  | .local _ .vmem, ⟨3, _⟩ => ⟨S8x64, .i32⟩
  | .local _ .vmem, ⟨4, _⟩ => ⟨S8x1x8x64, .f32⟩
  | .local _ .vmem, ⟨5, _⟩ => ⟨S72x64, .f32⟩
  | .local _ .vmem, ⟨6, _⟩ => ⟨S72x64, .f32⟩
  | .local _ .smem, ⟨0, _⟩ => ⟨S8, .i32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v154 : BitVec 32 := Scalar.muli v2 c4_i32_47
  let v155 : BitVec 32 := Scalar.addi c0_i32_48 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v156 : BitVec 32 := Scalar.muli v5 c2_i32_49
  let v157 : BitVec 32 := Scalar.addi v155 v156
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_50 : BitVec 32 := 1#32
  let v158 : BitVec 32 := Scalar.muli v9 c1_i32_50
  let v159 : BitVec 32 := Scalar.addi v157 v158
  v159.toNat
abbrev stage0_0 : Fin 1 → Memref sig .tc .vmem S8x1x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S8x8x64 : Shape := ⟨3, ![8, 8, 64]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1024 : Shape := ⟨3, ![8, 8, 1024]⟩
abbrev S_ : Shape := ⟨0, ![]⟩
abbrev S8x64x16 : Shape := ⟨3, ![8, 64, 16]⟩
abbrev S8x1024 : Shape := ⟨2, ![8, 1024]⟩
abbrev S8x1 : Shape := ⟨2, ![8, 1]⟩
abbrev S8x1x1024 : Shape := ⟨3, ![8, 1, 1024]⟩
abbrev S8x8 : Shape := ⟨2, ![8, 8]⟩
abbrev S8x8x1 : Shape := ⟨3, ![8, 8, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S128x16x8x64, .bf16⟩
  | .hbm, ⟨2, _⟩ => ⟨S128x16x8x64, .bf16⟩
  | .hbm, ⟨3, _⟩ => ⟨S8x64, .i32⟩
  | .hbm, ⟨4, _⟩ => ⟨S8, .i32⟩
  | .hbm, ⟨5, _⟩ => ⟨S8x8x64, .bf16⟩
  | .hbm, ⟨6, _⟩ => ⟨S8x8x64, .f32⟩
  | .hbm, ⟨7, _⟩ => ⟨S8x64x1, .i32⟩
  | .hbm, ⟨8, _⟩ => ⟨S8x64x16x8x64, .bf16⟩
  | .hbm, ⟨9, _⟩ => ⟨S8x64x16x8x64, .f32⟩
  | .hbm, ⟨10, _⟩ => ⟨S8x1024x8x64, .f32⟩
  | .hbm, ⟨11, _⟩ => ⟨S8x64x1, .i32⟩
  | .hbm, ⟨12, _⟩ => ⟨S8x64x16x8x64, .bf16⟩
  | .hbm, ⟨13, _⟩ => ⟨S8x64x16x8x64, .f32⟩
  | .hbm, ⟨14, _⟩ => ⟨S8x1024x8x64, .f32⟩
  | .hbm, ⟨15, _⟩ => ⟨S8x8x1024, .f32⟩
  | .hbm, ⟨16, _⟩ => ⟨S_, .f32⟩
  | .hbm, ⟨17, _⟩ => ⟨S8x8x1024, .f32⟩
  | .hbm, ⟨18, _⟩ => ⟨S8x8x1024, .f32⟩
  | .hbm, ⟨19, _⟩ => ⟨S8x64x16, .i32⟩
  | .hbm, ⟨20, _⟩ => ⟨S8x1024, .i32⟩
  | .hbm, ⟨21, _⟩ => ⟨S8x1, .i32⟩
  | .hbm, ⟨22, _⟩ => ⟨S8x1024, .i32⟩
  | .hbm, ⟨23, _⟩ => ⟨S8x1024, .i1⟩
  | .hbm, ⟨24, _⟩ => ⟨S8x1x1024, .i1⟩
  | .hbm, ⟨25, _⟩ => ⟨S_, .f32⟩
  | .hbm, ⟨26, _⟩ => ⟨S_, .f32⟩
  | .hbm, ⟨27, _⟩ => ⟨S8x8x1024, .i1⟩
  | .hbm, ⟨28, _⟩ => ⟨S8x8x1024, .f32⟩
  | .hbm, ⟨29, _⟩ => ⟨S8x8x1024, .f32⟩
  | .hbm, ⟨30, _⟩ => ⟨S_, .f32⟩
  | .hbm, ⟨31, _⟩ => ⟨S8x8, .f32⟩
  | .hbm, ⟨32, _⟩ => ⟨S8x8x1, .f32⟩
  | .hbm, ⟨33, _⟩ => ⟨S8x8x1024, .f32⟩
  | .hbm, ⟨34, _⟩ => ⟨S8x8x1024, .f32⟩
  | .hbm, ⟨35, _⟩ => ⟨S8x8x1024, .f32⟩
  | .hbm, ⟨36, _⟩ => ⟨S_, .f32⟩
  | .hbm, ⟨37, _⟩ => ⟨S8x8, .f32⟩
  | .hbm, ⟨38, _⟩ => ⟨S8x8x1, .f32⟩
  | .hbm, ⟨39, _⟩ => ⟨S8x8x1024, .f32⟩
  | .hbm, ⟨40, _⟩ => ⟨S8x8x1024, .f32⟩
  | .hbm, ⟨41, _⟩ => ⟨S8x8x64, .f32⟩
  | .hbm, ⟨42, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.KernelIdealExchange.lean ====
/-
The exchange between the two devices that differ in the mesh's `z` coordinate, as a protocol with contents.

Every device owns three counters: the barrier (0), the send counter (1) and the receive counter (2). Each is
paid exactly once and waited on exactly once.

* barrier of `c`: paid by `mate c`, one unit; the unit carries `mate c`'s receive buffer, which `c` may then
  write;
* send of `c`: paid by `c`'s own transfer with the credit of a 72 × 64 block; it carries `c`'s send buffer back,
  still holding what was sent;
* receive of `c`: paid by `mate c`'s transfer with the same credit; it carries `c`'s receive buffer, now
  holding what `mate c` sent.

The order on a device: pay the mate's barrier, wait on the own barrier, compute and store the block into the send
buffer, start the transfer, wait on send, wait on receive, combine, store the result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Writes
public import Idealize.ShloMosaic.Lib.PointwiseCore
public import Idealize.ShloMosaic.Lib.ValueIdxCore
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- One copy of the rounds algebra for the staging pipeline, one for the exchange. -/
abbrev Res : Type := UR sig nD τ × UR sig nD τ

local notation "𝕄" => MT nD τ sig Unit (Elt F) ℕ Res ℕ

abbrev EPipe : Emb (UR sig nD τ) (MT nD τ sig Unit (Elt F) ℕ Res ℕ) := embL
abbrev EX : Emb (UR sig nD τ) (MT nD τ sig Unit (Elt F) ℕ Res ℕ) := embR

variable (m : (ℓ : Loc nD τ sig) → Buf (Elt F) ℓ) (ρ : Dev nD → PrngReg)

/-- The machine at launch: memory `m`, every counter zero, generator registers `ρ`. -/
abbrev start₀ : MemSt nD τ sig (Elt F) := ⟨m, fun _ => 0, ρ⟩

/-! ## Who talks to whom -/

/-- The device that agrees with `c` in `x` and `y` and differs in `z`, the lowest bit of the device number. -/
def mate (c : Dev nD) : Dev nD := ⟨k0_dev1 c, k0_dev1_lt c⟩

/-- The number of the device across z. -/
theorem mate_val (c : Dev nD) : (mate c).val = (4 * (c.val / 4) + 2 * ((c.val / 2) % 2) + 1) - c.val % 2 := k0_dev1_eq c

/-- Going across z twice leads back. -/
theorem mate_mate (c : Dev nD) : mate (mate c) = c := by
  apply Fin.ext
  have h := c.isLt
  have h8 : nD = 8 := rfl
  rw [mate_val, mate_val]; omega

/-- The transfer is addressed to the device that the barrier signal is addressed to. -/
theorem dev2_mate (c : Dev nD) : (⟨k0_dev2 c, k0_dev2_lt c⟩ : Dev nD) = mate c :=
  Fin.ext ((k0_dev2_eq c).trans (mate_val c).symm)

/-! ## Buffers and counters -/

abbrev qM : Memref sig .tc .vmem S8x1x8x64 .bf16 := Memref.whole cc0_stg0_0
abbrev kM : Memref sig .tc .vmem S64x16x8x64 .bf16 := Memref.whole cc0_stg1_0
abbrev vM : Memref sig .tc .vmem S64x16x8x64 .bf16 := Memref.whole cc0_stg2_0
abbrev btM : Memref sig .tc .vmem S8x64 .i32 := Memref.whole cc0_stg3_0
abbrev lenM : Memref sig .tc .smem S8 .i32 := Memref.whole cc0_stg4_0
abbrev outM : Memref sig .tc .vmem S8x1x8x64 .f32 := Memref.whole cc0_stg5_0
abbrev sndM : Memref sig .tc .vmem S72x64 .f32 := Memref.whole cc0_scratch0
abbrev rcvM : Memref sig .tc .vmem S72x64 .f32 := Memref.whole cc0_scratch1

/-- The barrier semaphore of collective 0. -/
abbrev barSem : Sem sig := (SemArray.scalar (sig.barrier 0 rfl) : Sems sig S_).sem
abbrev sndSem : DmaSems sig S_ := cc0_scratch2
abbrev rcvSem : DmaSems sig S_ := cc0_scratch3

/-- The three counters: barrier, send, receive. -/
abbrev ctr : Fin 3 → SemLoc sig := fun | 0 => .reg barSem | 1 => .dma sndSem.sem | 2 => .dma rcvSem.sem

/-- Counter `k` of device `c`. -/
abbrev cell (c : Dev nD) (k : Fin 3) : GSem nD τ sig := ((c : Thread nD τ), ctr k)

/-- The three counters are different. -/
theorem ctr_injective : Function.Injective ctr := by
  intro a b h
  fin_cases a <;> fin_cases b <;> first | rfl | exact absurd h (by decide)

/-- A cell determines its device and its counter. -/
theorem cell_inj {c d : Dev nD} {j k : Fin 3} (h : cell c j = cell d k) : c = d ∧ j = k :=
  ⟨congrArg (fun g : GSem nD τ sig => g.1.1) h, ctr_injective (congrArg Prod.snd h)⟩

/-- The credit of one transfer of the block. -/
abbrev credit : ℕ := (rcvM : Memref sig .tc .vmem S72x64 .f32).view.dmaCredit

/-- What counter `k` counts to: one unit at the barrier, a block's credit at the other two. -/
def units : Fin 3 → ℕ := fun | 0 => 1 | 1 => credit | 2 => credit

/-- Every counter is paid something. -/
theorem units_pos (k : Fin 3) : 0 < units k := by
  have h : 0 < credit := View.dmaCredit_pos _ (by decide)
  fin_cases k <;> first | exact Nat.one_pos | exact h

/-- Which of the three counters a semaphore cell is, if any. -/
def role (g : GSem nD τ sig) : Option (Fin 3) :=
  if g.1.2 = .tc then
    (if g.2 = ctr 0 then some 0 else if g.2 = ctr 1 then some 1 else if g.2 = ctr 2 then some 2 else none)
  else none

/-- The role of a cell is its counter. -/
theorem role_cell (c : Dev nD) (k : Fin 3) : role (cell c k) = some k := by
  unfold role
  rw [if_pos rfl]
  have h10 : ctr 1 ≠ ctr 0 := fun h => absurd (ctr_injective h) (by decide)
  have h20 : ctr 2 ≠ ctr 0 := fun h => absurd (ctr_injective h) (by decide)
  have h21 : ctr 2 ≠ ctr 1 := fun h => absurd (ctr_injective h) (by decide)
  fin_cases k
  · exact if_pos rfl
  · exact (if_neg h10).trans (if_pos rfl)
  · exact (if_neg h20).trans ((if_neg h21).trans (if_pos rfl))

/-! ## What each device computes -/

section Values
variable (c : Dev nD)

/-- Device `c`'s staged blocks: queries, key pages, value pages, block table, lengths. -/
def inQ : Vec F S8x1x8x64 .bf16 := iblk m c 0 t0_0
/-- The device's keys, as the kernel reads them. -/
def inK : Vec F S64x16x8x64 .bf16 := iblk m c 1 t0_0
/-- The device's values, as the kernel reads them. -/
def inV : Vec F S64x16x8x64 .bf16 := iblk m c 2 t0_0
/-- The table of slots, as the kernel reads it. -/
def inBt : Vec F S8x64 .i32 := iblk m c 3 t0_0
/-- The lengths, as the kernel reads them. -/
def inLen : Vec F S8 .i32 := iblk m c 4 t0_0

/-- The `z` coordinate of the device as the kernel computes it. -/
def zWord : BitVec 32 := Scalar.remsi (Scalar.divsi (Dev.word c) 1#32) 2#32

/-- Length `i`. -/
def lenAt (i : Fin 8) : BitVec 32 := inLen m c (ValueIdx.ix1 i)

/-- The lengths as a column. -/
def lenCol : IVec S8x1 32 :=
  k0_pay6 (F := F) (lenAt m c ⟨0, by decide⟩) (lenAt m c ⟨1, by decide⟩) (lenAt m c ⟨2, by decide⟩) (lenAt m c ⟨3, by decide⟩) (lenAt m c ⟨4, by decide⟩) (lenAt m c ⟨5, by decide⟩) (lenAt m c ⟨6, by decide⟩) (lenAt m c ⟨7, by decide⟩)

/-- How often each local key row is used by each batch element, repeated over the heads. -/
def weights : FVec F S1024x64 .f32 := k0_pay7 (zWord c) (lenCol m c) (inBt m c)

/-- The queries as a block-diagonal matrix. -/
def queryMat : FVec F S512x64 .bf16 :=
  k0_pay12 (k0_pay8 (inQ m c)) (iota .tc S512x64 32 [0] iota_S512x64_d0_w32) k0_pay9 k0_pay10 k0_pay11

/-- The keys as a matrix of rows by heads and lanes. -/
def keyMat : FVec F S1024x512 .bf16 := k0_pay13 (inK m c)
/-- The values as a matrix of rows by heads and lanes. -/
def valMat : FVec F S1024x512 .bf16 := k0_pay14 (inV m c)
def zeroAcc : FVec F S1024x64 .f32 := constant S1024x64 .f32 0x00000000#32

/-- The device's own maxima, sums and weighted values. -/
def ownMax : FVec F S1x64 .f32 := k0_pay16 (weights m c) (queryMat m c) (keyMat m c) zeroAcc
/-- The device's own sums of weights. -/
def ownSum : FVec F S1x64 .f32 := k0_pay18 (weights m c) (queryMat m c) (keyMat m c) zeroAcc
/-- The device's own weighted sums of values. -/
def ownVal : FVec F S64x64 .f32 := k0_pay19 (weights m c) (queryMat m c) (keyMat m c) (valMat m c) zeroAcc

/-- The block that `c` sends. -/
def sent : FVec F S72x64 .f32 := k0_pay20 (weights m c) (queryMat m c) (keyMat m c) (valMat m c) zeroAcc

/-- The combined result, row `8 h + b`, column `d`. -/
def combined : FVec F S64x64 .f32 := k0_pay21 (ownMax m c) (ownSum m c) (ownVal m c) (sent m (mate c))

end Values

/-- The rectangle of head `h` in the output block. -/
abbrev headRect (h : ℕ) (hb : ∀ a, (![0, 0, h, 0] : Fin 4 → ℕ) a + S8x1x1x64.size a ≤ S8x1x8x64.size a) : Rect S8x1x8x64 :=
  Rect.unit (s := S8x1x8x64) ![0, 0, h, 0] S8x1x1x64.size hb

/-- The first three stores of the result, the last one first. -/
def firstStores (c : Dev nD) : List (View.Piece (Elt F) S8x1x8x64 .f32) :=
  [⟨headRect 2 inb_S8x1x8x64_S8x1x1x64_0_0_2_0, k0_pay24 (ownMax m c) (ownSum m c) (ownVal m c) (sent m (mate c))⟩,
   ⟨headRect 1 inb_S8x1x8x64_S8x1x1x64_0_0_1_0, k0_pay23 (ownMax m c) (ownSum m c) (ownVal m c) (sent m (mate c))⟩,
   ⟨headRect 0 inb_S8x1x8x64_S8x1x1x64_0_0_0_0, k0_pay22 (ownMax m c) (ownSum m c) (ownVal m c) (sent m (mate c))⟩]

/-- The eight stores of the result, the last one first. -/
def headStores (c : Dev nD) : List (View.Piece (Elt F) S8x1x8x64 .f32) :=
  ⟨headRect 7 inb_S8x1x8x64_S8x1x1x64_0_0_7_0, k0_pay5 (combined m c)⟩ ::
    ⟨headRect 6 inb_S8x1x8x64_S8x1x1x64_0_0_6_0, k0_pay4 (combined m c)⟩ ::
    ⟨headRect 5 inb_S8x1x8x64_S8x1x1x64_0_0_5_0, k0_pay3 (combined m c)⟩ ::
    ⟨headRect 4 inb_S8x1x8x64_S8x1x1x64_0_0_4_0, k0_pay2 (combined m c)⟩ ::
    ⟨headRect 3 inb_S8x1x8x64_S8x1x1x64_0_0_3_0, k0_pay1 (k0_pay25 (ownMax m c) (ownSum m c) (ownVal m c) (sent m (mate c)))⟩ ::
    firstStores m c

/-- The output block: head `h` of batch element `b` is row `8 h + b` of the combined matrix. -/
def outBlock (c : Dev nD) : (cc0_stg5_0 : Ref sig .tc).ty.Contents (Elt F) := fun (i : S8x1x8x64.Idx) =>
  combined m c (ValueIdx.ix2 (⟨8 * (i 2).val + (i 0).val, by
    have h0 : (i 0).val < 8 := (i 0).isLt
    have h2 : (i 2).val < 8 := (i 2).isLt
    omega⟩ : Fin 64) (i 3))

/-! ## The schedule -/

/-- The whole send buffer of `c`, holding `f`. -/
def sndAt (c : Dev nD) (f : (cc0_scratch0 : Ref sig .tc).ty.Contents (Elt F)) : sProp 𝕄 := ((c : Thread nD τ).loc cc0_scratch0) ↦{fullShare} f
/-- The whole receive buffer of `c`, holding `f`. -/
def rcvAt (c : Dev nD) (f : (cc0_scratch1 : Ref sig .tc).ty.Contents (Elt F)) : sProp 𝕄 := ((c : Thread nD τ).loc cc0_scratch1) ↦{fullShare} f

/-- What the payment of counter `k` of device `c` carries. -/
def pay (c : Dev nD) : Fin 3 → sProp 𝕄 := fun
  | 0 => iprop(∃ f, rcvAt (mate c) f)
  | 1 => sndAt c (sent m c)
  | 2 => rcvAt c (sent m (mate c))

instance pay_storable (c : Dev nD) (k : Fin 3) : BI.Storable (upEmb : UEmb _ 𝕄) (pay (F := F) m c k) := by
  fin_cases k <;> unfold pay sndAt rcvAt <;> infer_instance

/-- One round: each of the three counters of each device is paid once. -/
def sched : Rounds.Schedule (GSem nD τ sig) Unit 𝕄 where
  duties g r := if r = 0 ∧ (role g).isSome = true then {()} else ∅
  unitless _ := False
  amount g _ _ := ((role g).map units).getD 1
  payload g _ _ := match role g with
    | some k => pay m g.1.1 k
    | none => iprop(emp)
  amount_pos g _ _ _ := by
    cases role g with
    | none => exact Nat.one_pos
    | some k => exact units_pos k

instance sched_storable (g : GSem nD τ sig) (r : ℕ) (d : Unit) :
    BI.Storable (upEmb : UEmb _ 𝕄) ((sched (F := F) m).payload g r d) := by
  show BI.Storable upEmb (match role g with | some k => pay m g.1.1 k | none => iprop(emp))
  split <;> infer_instance

/-- Each cell has one duty, in round 0. -/
theorem duties_cell (c : Dev nD) (k : Fin 3) : (sched (F := F) m).duties (cell c k) 0 = {()} := by
  dsimp only [sched]; rw [role_cell]; exact if_pos ⟨rfl, rfl⟩

/-- The duty is there. -/
theorem duty_mem (c : Dev nD) (k : Fin 3) : () ∈ (sched (F := F) m).duties (cell c k) 0 := by
  rw [duties_cell]; exact Finset.mem_singleton_self _

/-- There are no duties after round 0. -/
theorem duties_after (g : GSem nD τ sig) : ∀ r, 1 ≤ r → (sched (F := F) m).duties g r = ∅ :=
  fun r hr => if_neg fun h => by omega

/-- The duty's amount. -/
theorem amount_cell (c : Dev nD) (k : Fin 3) (d : Unit) : (sched (F := F) m).amount (cell c k) 0 d = units k := by
  dsimp only [sched]; rw [role_cell]; rfl

/-- The duty's payload. -/
theorem payload_cell (c : Dev nD) (k : Fin 3) (d : Unit) : (sched (F := F) m).payload (cell c k) 0 d = pay m c k := by
  dsimp only [sched]; rw [role_cell]

/-- What a round of the cell is paid in all. -/
theorem expect_cell (c : Dev nD) (k : Fin 3) : (sched (F := F) m).expect (cell c k) 0 = units k := by
  unfold Schedule.expect Schedule.amountOf
  rw [duties_cell, Finset.sum_singleton, amount_cell]

/-- What remains to be handed over by a round of the cell is its payload. -/
theorem rest_cell (c : Dev nD) (k : Fin 3) :
    bigSep ((sched (F := F) m).duties (cell c k) 0 \ ∅) (fun d => (sched (F := F) m).payload (cell c k) 0 d) = pay m c k := by
  rw [Finset.sdiff_empty, duties_cell, bigSep_singleton, payload_cell]

/-! ## Debts and levels -/

/-- What a device owes at the launch: the credit at its mate's receive counter, and the unit at its mate's barrier. -/
def debt (c : Dev nD) : CellTallies nD τ sig Unit := tallyAt (cell (mate c) 2) () credit + tallyAt (cell (mate c) 0) () 1

/-- A device owes only into its mate's cells. -/
theorem debt_pos {c : Dev nD} {g : GSem nD τ sig} {u : Unit} (h : 0 < debt c g u) : g = cell (mate c) 2 ∨ g = cell (mate c) 0 := by
  unfold debt at h
  rw [Pi.add_apply, Finsupp.add_apply, tallyAt_apply, tallyAt_apply] at h
  by_contra hn
  rw [not_or] at hn
  rw [if_neg fun e => hn.1 e.1, if_neg fun e => hn.2 e.1] at h
  exact Nat.lt_irrefl 0 h

/-- The labels of a cell: one on each core that runs the kernel, none elsewhere. -/
def labels (g : GSem nD τ sig) : Finset Unit := if g.1.2 = .tc then {()} else ∅

/-- The barriers are at level 1, the receive counters at level 2, everything else at level 0. -/
def level (g : GSem nD τ sig) (_ : Unit) : ℕ := match role g with
  | some 0 => 1
  | some 2 => 2
  | _ => 0

/-- No labels off the main core. -/
theorem labels_ne (g : GSem nD τ sig) (h : g.1.2 ≠ .tc) : labels g = ∅ := if_neg h
/-- One label on the main core. -/
theorem labels_tc (c : Dev nD) (sm : SemLoc sig) : labels ((c : Thread nD τ), sm) = {()} := if_pos rfl

/-- A device may wait on a counter when everything it still owes lies at a higher level. -/
theorem mayWait (c : Dev nD) (sm : SemLoc sig) (O : CellTallies nD τ sig Unit)
    (h : ∀ g u, 0 < O g u → (∃ d k, g = cell d k) ∧ level ((c : Thread nD τ), sm) () < level g ()) :
    (levAts labels level : sProp 𝕄) ⊢ MayWait (c : Thread nD τ) sm () O :=
  MayOwe.of_cut (L := labels) (lev := level) (level ((c : Thread nD τ), sm) ())
    (fun p hp => by rw [Finset.mem_singleton.mp hp, labels_tc]; exact Finset.mem_singleton_self _)
    (fun g u hg => by obtain ⟨⟨d, k, rfl⟩, -⟩ := h g u hg; rw [labels_tc]; exact Finset.mem_singleton_self _)
    (fun p hp => by rw [Finset.mem_singleton.mp hp])
    (fun g u hg => (h g u hg).2)

/-- At its barrier a device owes only at its mate's receive counter. -/
theorem mayWait_bar (c : Dev nD) :
    (levAts labels level : sProp 𝕄) ⊢ MayWait (c : Thread nD τ) (ctr 0) () (tallyAt (cell (mate c) 2) () credit) :=
  mayWait c (ctr 0) _ fun g u hg => by
    have hg' : g = cell (mate c) 2 := by
      by_contra hn
      rw [tallyAt_apply, if_neg fun e => hn e.1] at hg
      exact Nat.lt_irrefl 0 hg
    subst hg'
    refine ⟨⟨_, _, rfl⟩, ?_⟩
    unfold level
    rw [role_cell c 0, role_cell (mate c) 2]; decide

/-- On a counter that is none of the three a device may wait at the launch's debt. -/
theorem mayWait_other (c : Dev nD) (sm : SemLoc sig) (hs : role ((c : Thread nD τ), sm) = none) :
    (levAts labels level : sProp 𝕄) ⊢ MayWait (c : Thread nD τ) sm () (debt c) :=
  mayWait c sm _ fun g u hg => by
    unfold level
    rcases debt_pos hg with rfl | rfl
    · exact ⟨⟨_, _, rfl⟩, by rw [hs, role_cell]; decide⟩
    · exact ⟨⟨_, _, rfl⟩, by rw [hs, role_cell]; decide⟩

/-! ## Ghost state -/

/-- Which counter device `c` pays when it makes its payment of kind `k`: the send counter is its own. -/
def target (ck : Dev nD × Fin 3) : Dev nD × Fin 3 := (if ck.2 = 1 then ck.1 else mate ck.1, ck.2)

/-- The cell that pays and the cell that is paid exchange under `target`. -/
theorem target_target (ck : Dev nD × Fin 3) : target (target ck) = ck := by
  obtain ⟨c, k⟩ := ck
  unfold target
  by_cases h : k = 1
  · simp [h]
  · simp [h, mate_mate]

/-- The shared records: every counter's invariant, and that each is at its round. -/
def records (K : Dev nD × Fin 3 → ℕ) : sProp 𝕄 :=
  bigSep Finset.univ fun ck : Dev nD × Fin 3 => iprop(cellInv EX (sched m) (K ck) (cell ck.1 ck.2) ∗ reached EX (cell ck.1 ck.2) 0)

instance records_persistent (K : Dev nD × Fin 3 → ℕ) : BI.Persistent (records m K) := by unfold records; infer_instance

/-- From the records of all cells, the record of one. -/
theorem records_at (K : Dev nD × Fin 3 → ℕ) (c : Dev nD) (k : Fin 3) :
    records m K ⊢ iprop(cellInv EX (sched m) (K (c, k)) (cell c k) ∗ reached EX (cell c k) 0) :=
  bigSep_elim (Φ := fun ck : Dev nD × Fin 3 => iprop(cellInv EX (sched m) (K ck) (cell ck.1 ck.2) ∗ reached EX (cell ck.1 ck.2) 0)) (Finset.mem_univ (c, k))

/-- A device's own part: where it stands at its three counters, and the right to make its three payments. -/
def own (c : Dev nD) : sProp 𝕄 :=
  iprop((bigSep Finset.univ fun k : Fin 3 => atPos EX (cell c k) 0 ∅ 0)
    ∗ bigSep Finset.univ fun k : Fin 3 => dutyTok EX (cell (target (c, k)).1 (target (c, k)).2) 0 ())

/-- A resource over three counters is three resources. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- What a device holds when the kernel starts. -/
def begin (c : Dev nD) : sProp 𝕄 :=
  iprop((∃ K, records m K ∗ own c) ∗ cred (tallyAt (cell c 0) () 1) ∗ cred (tallyAt (cell c 2) () credit) ∗ levAts labels level)

/-- Before the body: that, and the two scratch buffers at some contents. -/
def before (c : Dev nD) : sProp 𝕄 := iprop(begin m c ∗ (∃ f, sndAt c f) ∗ ∃ f, rcvAt c f)

/-- After the body: the scratch buffers at what was exchanged, and the three counters at zero. -/
def after (c : Dev nD) : sProp 𝕄 :=
  iprop(sndAt c (sent m c) ∗ rcvAt c (sent m (mate c)) ∗ bigSep Finset.univ fun k : Fin 3 => semVal (cell c k) 0)

/-- The staging pipeline's data. -/
def dats (_ : Fin 1) (c : Dev nD) : Dat τ (Elt F) Unit ℕ Res ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c
  Φ t := match t with
    | ⟨0, _⟩ => before m c
    | ⟨_ + 1, _⟩ => after m c
  q _ := fullShare
  owed t := match t with
    | ⟨0, _⟩ => debt c
    | ⟨_ + 1, _⟩ => 0

end Cert.KernelIdeal.Exchange

end
-- ==== Proof.KernelIdealBody.lean ====
/-
The kernel's body against the protocol: from what a device holds at the start, the run of the body ends with the
output block at the combined result, the inputs as they were and the three counters at zero.
-/
module

public import proofs.«01_k».proof.Proof.KernelIdealExchange

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ Res ℕ

variable (m : (ℓ : Loc nD τ sig) → Buf (Elt F) ℓ) (ρ : Dev nD → PrngReg)

abbrev 𝒱₀ : Variants := Variants.none

/-! ## Reads and writes of whole buffers -/

/-- Two zero offsets. -/
theorem zero2 : (![0, 0] : Fin 2 → Nat) = fun _ => 0 := by decide
/-- Four zero offsets. -/
theorem zero4 : (![0, 0, 0, 0] : Fin 4 → Nat) = fun _ => 0 := by decide

/-- A word of the length table. -/
theorem read_len (c : Dev nD) (i : ℕ) (hi : i < 8) {h : ∀ a, (![i] : Fin 1 → ℕ) a + S1.size a ≤ S8.size a} {x : S1.Idx} :
    (lenM : Memref sig .tc .smem S8 .i32).view.readAt (Elt F) (Rect.unit (s := S8) ![i] S1.size h).toLoadRect (inLen m c) x = lenAt m c ⟨i, hi⟩ := by
  refine congrArg (inLen m c) (funext fun a => Fin.ext ?_)
  fin_cases a
  have hx : (x 0).val < 1 := (x 0).isLt
  show i + 1 * (x 0).val = i
  omega

/-- The contents the transfer leaves in the receive buffer are the ones of the send buffer. -/
theorem landing (fd : (cc0_scratch1 : Ref sig .tc).ty.Contents (Elt F)) (fs : (cc0_scratch0 : Ref sig .tc).ty.Contents (Elt F)) :
    (rcvM : Memref sig .tc .vmem S72x64 .f32).view.write (Elt F) fd ((sndM : Memref sig .tc .vmem S72x64 .f32).view.read (Elt F) fs) Finset.univ = fs :=
  (View.write_whole_univ cc0_scratch1 fd _).trans (View.read_whole cc0_scratch0 fs)

/-- Reading a whole buffer, by its rectangle. -/
abbrev blockRect : Rect S72x64 := Rect.unit (s := S72x64) ![0, 0] S72x64.size inb_S72x64_S72x64_0_0
/-- Reading the whole query window gives the window's contents; the next four say it of the other arrays. -/
theorem read_q (f : (cc0_stg0_0 : Ref sig .tc).ty.Contents (Elt F)) :
    (qM : Memref sig .tc .vmem S8x1x8x64 .bf16).view.readAt (Elt F) (Rect.unit (s := S8x1x8x64) ![0, 0, 0, 0] S8x1x8x64.size inb_S8x1x8x64_S8x1x8x64_0_0_0_0).toLoadRect f = f :=
  Memref.readAt_unit_zero (Elt F) cc0_stg0_0 zero4 _ f
theorem read_k (f : (cc0_stg1_0 : Ref sig .tc).ty.Contents (Elt F)) :
    (kM : Memref sig .tc .vmem S64x16x8x64 .bf16).view.readAt (Elt F) (Rect.unit (s := S64x16x8x64) ![0, 0, 0, 0] S64x16x8x64.size inb_S64x16x8x64_S64x16x8x64_0_0_0_0).toLoadRect f = f :=
  Memref.readAt_unit_zero (Elt F) cc0_stg1_0 zero4 _ f
theorem read_v (f : (cc0_stg2_0 : Ref sig .tc).ty.Contents (Elt F)) :
    (vM : Memref sig .tc .vmem S64x16x8x64 .bf16).view.readAt (Elt F) (Rect.unit (s := S64x16x8x64) ![0, 0, 0, 0] S64x16x8x64.size inb_S64x16x8x64_S64x16x8x64_0_0_0_0).toLoadRect f = f :=
  Memref.readAt_unit_zero (Elt F) cc0_stg2_0 zero4 _ f
theorem read_bt (f : (cc0_stg3_0 : Ref sig .tc).ty.Contents (Elt F)) :
    (btM : Memref sig .tc .vmem S8x64 .i32).view.readAt (Elt F) (Rect.unit (s := S8x64) ![0, 0] S8x64.size inb_S8x64_S8x64_0_0).toLoadRect f = f :=
  Memref.readAt_unit_zero (Elt F) cc0_stg3_0 zero2 _ f
theorem read_rcv (f : (cc0_scratch1 : Ref sig .tc).ty.Contents (Elt F)) :
    (rcvM : Memref sig .tc .vmem S72x64 .f32).view.readAt (Elt F) (Rect.unit (s := S72x64) ![0, 0] S72x64.size inb_S72x64_S72x64_0_0).toLoadRect f = f :=
  Memref.readAt_unit_zero (Elt F) cc0_scratch1 zero2 _ f
/-- Storing the whole send buffer. -/
theorem store_snd (f w : (cc0_scratch0 : Ref sig .tc).ty.Contents (Elt F)) :
    ((sndM : Memref sig .tc .vmem S72x64 .f32).access blockRect : View sig .tc _ _ _).write (Elt F) f w Finset.univ = w :=
  Memref.write_access_unit_zero_univ (Elt F) cc0_scratch0 zero2 _ f w

/-- The eight stores agree with the output block. -/
theorem pieces_agree (c : Dev nD) : ∀ p ∈ headStores m c, ∀ x : p.1.shape.Idx, p.2 x = outBlock m c (p.1.emb x) := by
  intro p hp
  simp only [headStores, firstStores, List.mem_cons, List.not_mem_nil, or_false] at hp
  rcases hp with rfl | rfl | rfl | rfl | rfl | rfl | rfl | rfl <;> intro (x : S8x1x1x64.Idx) <;> dsimp only
  all_goals
    have h0 : (x 0).val < 8 := (x 0).isLt
    have h2 : (x 2).val < 1 := (x 2).isLt
    rw [ValueIdx.eq_ix4 x]
    pointwise [k0_pay1, k0_pay2, k0_pay3, k0_pay4, k0_pay5, k0_pay22, k0_pay23, k0_pay24, k0_pay25]
    refine congrArg (combined m c) (funext fun a => Fin.ext ?_)
    fin_cases a
  · show 56 + (x 0).val = 8 * (7 + 1 * (x 2).val) + (0 + 1 * (x 0).val); omega
  · show (x 3).val = 0 + 1 * (x 3).val; omega
  · show 48 + (x 0).val = 8 * (6 + 1 * (x 2).val) + (0 + 1 * (x 0).val); omega
  · show (x 3).val = 0 + 1 * (x 3).val; omega
  · show 40 + (x 0).val = 8 * (5 + 1 * (x 2).val) + (0 + 1 * (x 0).val); omega
  · show (x 3).val = 0 + 1 * (x 3).val; omega
  · show 32 + (x 0).val = 8 * (4 + 1 * (x 2).val) + (0 + 1 * (x 0).val); omega
  · show (x 3).val = 0 + 1 * (x 3).val; omega
  · show 24 + (x 0).val = 8 * (3 + 1 * (x 2).val) + (0 + 1 * (x 0).val); omega
  · show (x 3).val = 0 + 1 * (x 3).val; omega
  · show 16 + (x 0).val = 8 * (2 + 1 * (x 2).val) + (0 + 1 * (x 0).val); omega
  · show (x 3).val = 0 + 1 * (x 3).val; omega
  · show 8 + (x 0).val = 8 * (1 + 1 * (x 2).val) + (0 + 1 * (x 0).val); omega
  · show (x 3).val = 0 + 1 * (x 3).val; omega
  · show (x 0).val = 8 * (0 + 1 * (x 2).val) + (0 + 1 * (x 0).val); omega
  · show (x 3).val = 0 + 1 * (x 3).val; omega

/-- The eight stores cover the block. -/
theorem pieces_cover (c : Dev nD) (y : S8x1x8x64.Idx) : ∃ p ∈ headStores m c, y ∈ p.1.set :=
  View.cover_of_tiled (headStores m c) S8x1x1x64.size rfl y

/-- The eight stores leave the output block, whatever was there. -/
theorem stores_out (c : Dev nD) (f : (cc0_stg5_0 : Ref sig .tc).ty.Contents (Elt F)) :
    (outM : Memref sig .tc .vmem S8x1x8x64 .f32).view.writes (Elt F) f (headStores m c) = outBlock m c := by
  funext y
  have h := View.read_writes_apply_of_pieces (View.whole cc0_stg5_0) f (outBlock m c) (headStores m c) (pieces_agree m c) y (pieces_cover m c y)
  rw [View.read_whole] at h
  exact h

/-! ## The transfer -/

/-- Starting the transfer: the device hands over its send buffer and its mate's receive buffer, and its debt is paid. -/
theorem transfer (K : Dev nD × Fin 3 → ℕ) (c n : Dev nD) (hn : n = mate c)
    {hsc : (rcvM : Memref sig (Dev.tc n : Thread nD τ).2.kind .vmem S72x64 .f32).view.ref.isScScratch = false}
    {hsrc : (sndM : Memref sig .tc .vmem S72x64 .f32).view.WordExact} {hdst : (rcvM : Memref sig .tc .vmem S72x64 .f32).view.WordExact}
    {hsem : DmaTarget.Typed .vmem (.dma rcvSem.sem) (.remote (Dev.tc n : Thread nD τ) (rcvM : Memref sig .tc .vmem S72x64 .f32) (.dma sndSem.sem) hsc)}
    {α : Type} {Q : α → sProp 𝕄} {k : PUnit → Prog (TpuEff nD τ sig (Elt F) Λ₀ .tc) α} (W : Waits sig Unit) :
    iprop(records m K ∗ sndAt c (sent m c) ∗ (∃ f, rcvAt (mate c) f) ∗ owes (c : Thread nD τ) (tallyAt (cell (mate c) 2) () credit) W
        ∗ dutyTok EX (cell c 1) 0 () ∗ dutyTok EX (cell (mate c) 2) 0 ())
      ⊢ iprop(((cred (tallyAt (cell c 1) () credit) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndM (.remote (Dev.tc n : Thread nD τ) rcvM (.dma sndSem.sem) hsc) (.dma rcvSem.sem) hsrc hdst hsem) k) Q) := by
  subst hn
  have hs : sndAt c (sent m c) = ((sndM : Memref sig .tc .vmem S72x64 .f32).view.loc (c : Thread nD τ)
      ↦[(sndM : Memref sig .tc .vmem S72x64 .f32).view.set]{fullShare} sent m c : sProp 𝕄) := by
    unfold sndAt; rw [View.set_whole]
  have hr (d : Dev nD) (f : (cc0_scratch1 : Ref sig .tc).ty.Contents (Elt F)) : rcvAt d f = ((rcvM : Memref sig .tc .vmem S72x64 .f32).view.loc (d : Thread nD τ)
      ↦[(rcvM : Memref sig .tc .vmem S72x64 .f32).view.set]{fullShare} f : sProp 𝕄) := by
    unfold rcvAt; rw [View.set_whole]
  iintro ⟨#HR, Hs, ⟨%fd, Hr⟩, HO, HtS, HtR⟩
  ihave HS1 := (records_at m K c 1) $$ HR
  icases HS1 with ⟨HI1, HM1⟩
  ihave HS2 := (records_at m K (mate c) 2) $$ HR
  icases HS2 with ⟨HI2, HM2⟩
  ihave Hs' := (Entails.of_eq hs) $$ Hs
  ihave Hr' := (Entails.of_eq (hr (mate c) fd)) $$ Hr
  iapply (Rounds.wp_send_pointsTo 𝒱₀ EX (sched m) (c : Thread nD τ) none (κ₁ := K (c, 1)) (κ₂ := K (mate c, 2))
    (r₁ := 0) (r₂ := 0) (d₁ := ()) (d₂ := ()) (fd := fd)
    (duty_mem m c 1) (duty_mem m (mate c) 2)
    () () credit rfl (amount_cell m c 1 ()) (amount_cell m (mate c) 2 ()) 0 (by rw [zero_add]) (W := W)
    (by rw [payload_cell]; exact Entails.of_eq hs.symm)
    (by rw [payload_cell, landing, ← hr]; unfold pay; rw [mate_mate])) $$ [HI1 HI2 Hs' Hr' HO HtS HM1 HtR HM2]
  isplitl [HI1]; · iexact HI1
  isplitl [HI2]; · iexact HI2
  isplitl [Hs']; · iexact Hs'
  isplitl [Hr']; · iexact Hr'
  isplitl [HO]; · iexact HO
  isplitl [HtS]; · iexact HtS
  isplitl [HM1]; · iexact HM1
  isplitl [HtR]; · iexact HtR
  iexact HM2

/-! ## The body -/

/-- The staging buffers of the five inputs at the device's blocks. -/
def inputs (c : Dev nD) : sProp 𝕄 :=
  iprop((((c : Thread nD τ).loc cc0_stg0_0) ↦{fullShare} (inQ m c : (cc0_stg0_0 : Ref sig .tc).ty.Contents (Elt F)))
    ∗ (((c : Thread nD τ).loc cc0_stg1_0) ↦{fullShare} (inK m c : (cc0_stg1_0 : Ref sig .tc).ty.Contents (Elt F)))
    ∗ (((c : Thread nD τ).loc cc0_stg2_0) ↦{fullShare} (inV m c : (cc0_stg2_0 : Ref sig .tc).ty.Contents (Elt F)))
    ∗ (((c : Thread nD τ).loc cc0_stg3_0) ↦{fullShare} (inBt m c : (cc0_stg3_0 : Ref sig .tc).ty.Contents (Elt F)))
    ∗ (((c : Thread nD τ).loc cc0_stg4_0) ↦{fullShare} (inLen m c : (cc0_stg4_0 : Ref sig .tc).ty.Contents (Elt F))))

/-- The output's staging buffer, holding `f`. -/
def outAt (c : Dev nD) (f : (cc0_stg5_0 : Ref sig .tc).ty.Contents (Elt F)) : sProp 𝕄 := ((c : Thread nD τ).loc cc0_stg5_0) ↦{fullShare} f

/-- The body's program on a device's buffers. -/
abbrev bodyProg : Prog (TpuEff nD τ sig (Elt F) Λ₀ .tc) PUnit :=
  cc0__body (F := F) qM (Memref.isWhole_whole _) kM (Memref.isWhole_whole _) vM (Memref.isWhole_whole _) btM (Memref.isWhole_whole _)
    lenM (Memref.isWhole_whole _) outM (Memref.isWhole_whole _) sndM (Memref.isWhole_whole _) rcvM (Memref.isWhole_whole _) sndSem rcvSem

/-- The device's words for the mesh coordinates, which the addresses are computed from. -/
abbrev wordX (c : Dev nD) : BitVec 32 := Scalar.remsi (Scalar.divsi (Dev.word c) 4#32) 2#32
/-- The device's place along the second axis of the mesh, as a word. -/
abbrev wordY (c : Dev nD) : BitVec 32 := Scalar.remsi (Scalar.divsi (Dev.word c) 2#32) 2#32
abbrev wordZ' (c : Dev nD) : BitVec 32 := Scalar.subi 1#32 (zWord c)

/-- First part: the barrier handshake — the device gives its receive buffer away and gets its mate's — and the lengths. -/
theorem part1_run (K : Dev nD × Fin 3 → ℕ) (c : Dev nD) (W : Waits sig Unit)
    (Q : (Σ' (d0 : Dev nD) (v2 : BitVec 32) (v5 : BitVec 32) (v8 : BitVec 32) (v9 : BitVec 32), IVec S8x1 32) → sProp 𝕄) :
    iprop(records m K ∗ atPos EX (cell c 0) 0 ∅ 0 ∗ dutyTok EX (cell (mate c) 0) 0 () ∗ cred (tallyAt (cell c 0) () 1) ∗ levAts labels level
        ∗ (∃ f, rcvAt c f) ∗ owes (c : Thread nD τ) (debt c) W ∗ (((c : Thread nD τ).loc cc0_stg4_0) ↦{fullShare} (inLen m c : (cc0_stg4_0 : Ref sig .tc).ty.Contents (Elt F)))
        ∗ ((atPos EX (cell c 0) 1 ∅ 0 ∗ (∃ f, rcvAt (mate c) f) ∗ owes (c : Thread nD τ) (tallyAt (cell (mate c) 2) () credit) (insert (ctr 0, ()) W)
            ∗ (((c : Thread nD τ).loc cc0_stg4_0) ↦{fullShare} (inLen m c : (cc0_stg4_0 : Ref sig .tc).ty.Contents (Elt F))))
          -∗ Q ⟨c, wordX c, wordY c, zWord c, wordZ' c, lenCol m c⟩))
      ⊢ wp frame (wpE (defs₀ (F := F)) 𝒱₀ (c : Thread nD τ) none) Set.univ
        (k0_part1 (F := F) qM (Memref.isWhole_whole _) kM (Memref.isWhole_whole _) vM (Memref.isWhole_whole _) btM (Memref.isWhole_whole _)
          lenM (Memref.isWhole_whole _) outM (Memref.isWhole_whole _) sndM (Memref.isWhole_whole _) rcvM (Memref.isWhole_whole _) sndSem rcvSem) Q := by
  rw [k0_part1_eq_skeleton]
  unfold k0_part1_skel
  simp only [semSignalWord, semWaitWord, smemLoad, smemLoadElt, Prog.lift, Prog.bind_op, Prog.bind_ret, Prog.pure_eq_ret, wp_deviceId]
  iintro ⟨#HR, HaB, HtB, HcB, #Hlev, Hr, HO, H4, Hk⟩
  ihave HB0 := (records_at m K c 0) $$ HR
  icases HB0 with ⟨#HIb, #HMb⟩
  ihave HB3 := (records_at m K (mate c) 0) $$ HR
  icases HB3 with ⟨#HIm, #HMm⟩
  iapply (Rounds.wp_signal 𝒱₀ EX (sched m) (c : Thread nD τ) none (dst := (mate c : Thread nD τ)) (κ := K (mate c, 0)) (d := ())
      (duty_mem m (mate c) 0) ((amount_cell m (mate c) 0 ()).trans (by decide)) () (tallyAt (cell (mate c) 2) () credit) rfl) $$ [HO HtB Hr]
  · isplitr; · iexact HIm
    isplitl [HO]; · iexact HO
    isplitl [HtB]; · iexact HtB
    isplitl [Hr]
    · rw [payload_cell m (mate c) 0]; unfold pay; rw [mate_mate]; iexact Hr
    · iexact HMm
  iintro HO
  iapply (Rounds.wp_wait_rest_token 𝒱₀ EX (sched m) (c : Thread nD τ) none (κ := K (c, 0))
      (wpE_semWait_eq 𝒱₀ (c : Thread nD τ) none Set.univ) (Set.mem_univ _) () (O := tallyAt (cell (mate c) 2) () credit) (W := W) (R := 0) (m := 0) (T := ∅)
      (by rw [expect_cell m c 0]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hrm := (Entails.of_eq (rest_cell m c 0)) $$ Hpay
  unfold pay
  iapply (wp_load 𝒱₀ (c : Thread nD τ) none Set.univ (m := lenM) (Finset.subset_univ _)) $$ H4; iintro H4
  iapply (wp_load 𝒱₀ (c : Thread nD τ) none Set.univ (m := lenM) (Finset.subset_univ _)) $$ H4; iintro H4
  iapply (wp_load 𝒱₀ (c : Thread nD τ) none Set.univ (m := lenM) (Finset.subset_univ _)) $$ H4; iintro H4
  iapply (wp_load 𝒱₀ (c : Thread nD τ) none Set.univ (m := lenM) (Finset.subset_univ _)) $$ H4; iintro H4
  iapply (wp_load 𝒱₀ (c : Thread nD τ) none Set.univ (m := lenM) (Finset.subset_univ _)) $$ H4; iintro H4
  iapply (wp_load 𝒱₀ (c : Thread nD τ) none Set.univ (m := lenM) (Finset.subset_univ _)) $$ H4; iintro H4
  iapply (wp_load 𝒱₀ (c : Thread nD τ) none Set.univ (m := lenM) (Finset.subset_univ _)) $$ H4; iintro H4
  iapply (wp_load 𝒱₀ (c : Thread nD τ) none Set.univ (m := lenM) (Finset.subset_univ _)) $$ H4; iintro H4
  rw [wp_ret]; imodintro
  rw [read_len m c 0 (by decide), read_len m c 1 (by decide), read_len m c 2 (by decide), read_len m c 3 (by decide), read_len m c 4 (by decide), read_len m c 5 (by decide), read_len m c 6 (by decide), read_len m c 7 (by decide)]
  unfold lenCol wordX wordY wordZ' zWord
  iapply Hk
  isplitl [HaB]; · iexact HaB
  isplitl [Hrm]; · iexact Hrm
  isplitl [HO]; · iexact HO
  iexact H4

/-- Second part: the weights and the queries. -/
theorem part2_run (c : Dev nD)
    (Q : (Σ' (v57 : FVec F S1024x64 .f32) (v62 : FVec F S512x64 .bf16) (v63 : IVec S512x64 32) (v65 : IVec S512x64 32) (v79 : IVec S512x64 1), IVec S512x64 32) → sProp 𝕄) :
    iprop((((c : Thread nD τ).loc cc0_stg3_0) ↦{fullShare} (inBt m c : (cc0_stg3_0 : Ref sig .tc).ty.Contents (Elt F))) ∗ (((c : Thread nD τ).loc cc0_stg0_0) ↦{fullShare} (inQ m c : (cc0_stg0_0 : Ref sig .tc).ty.Contents (Elt F)))
        ∗ (((((c : Thread nD τ).loc cc0_stg3_0) ↦{fullShare} (inBt m c : (cc0_stg3_0 : Ref sig .tc).ty.Contents (Elt F))) ∗ (((c : Thread nD τ).loc cc0_stg0_0) ↦{fullShare} (inQ m c : (cc0_stg0_0 : Ref sig .tc).ty.Contents (Elt F))))
          -∗ Q ⟨weights m c, k0_pay8 (inQ m c), iota .tc S512x64 32 [0] iota_S512x64_d0_w32, k0_pay9, k0_pay10, k0_pay11⟩))
      ⊢ wp frame (wpE (defs₀ (F := F)) 𝒱₀ (c : Thread nD τ) none) Set.univ
        (k0_part2 (F := F) qM (Memref.isWhole_whole _) kM (Memref.isWhole_whole _) vM (Memref.isWhole_whole _) btM (Memref.isWhole_whole _)
          lenM (Memref.isWhole_whole _) outM (Memref.isWhole_whole _) sndM (Memref.isWhole_whole _) rcvM (Memref.isWhole_whole _) sndSem rcvSem (zWord c) (lenCol m c)) Q := by
  rw [k0_part2_eq_skeleton]
  unfold k0_part2_skel
  simp only [semSignalWord, semWaitWord, smemLoad, smemLoadElt, Prog.lift, Prog.bind_op, Prog.bind_ret, Prog.pure_eq_ret, wp_deviceId]
  iintro ⟨H3, H0, Hk⟩
  iapply (wp_load 𝒱₀ (c : Thread nD τ) none Set.univ (m := btM) (Finset.subset_univ _)) $$ H3; iintro H3
  rw [read_bt]
  iapply (wp_load 𝒱₀ (c : Thread nD τ) none Set.univ (m := qM) (Finset.subset_univ _)) $$ H0; iintro H0
  rw [read_q, wp_ret]; imodintro
  unfold weights
  iapply Hk
  isplitl [H3] <;> iassumption

/-- Third part: the block-diagonal query matrix, the keys and the values. -/
theorem part3_run (c : Dev nD)
    (Q : (Σ' (v115 : FVec F S512x64 .bf16) (v118 : FVec F S1024x512 .bf16) (v121 : FVec F S1024x512 .bf16), FVec F S1024x64 .f32) → sProp 𝕄) :
    iprop((((c : Thread nD τ).loc cc0_stg1_0) ↦{fullShare} (inK m c : (cc0_stg1_0 : Ref sig .tc).ty.Contents (Elt F))) ∗ (((c : Thread nD τ).loc cc0_stg2_0) ↦{fullShare} (inV m c : (cc0_stg2_0 : Ref sig .tc).ty.Contents (Elt F)))
        ∗ (((((c : Thread nD τ).loc cc0_stg1_0) ↦{fullShare} (inK m c : (cc0_stg1_0 : Ref sig .tc).ty.Contents (Elt F))) ∗ (((c : Thread nD τ).loc cc0_stg2_0) ↦{fullShare} (inV m c : (cc0_stg2_0 : Ref sig .tc).ty.Contents (Elt F))))
          -∗ Q ⟨queryMat m c, keyMat m c, valMat m c, zeroAcc⟩))
      ⊢ wp frame (wpE (defs₀ (F := F)) 𝒱₀ (c : Thread nD τ) none) Set.univ
        (k0_part3 (F := F) qM (Memref.isWhole_whole _) kM (Memref.isWhole_whole _) vM (Memref.isWhole_whole _) btM (Memref.isWhole_whole _)
          lenM (Memref.isWhole_whole _) outM (Memref.isWhole_whole _) sndM (Memref.isWhole_whole _) rcvM (Memref.isWhole_whole _) sndSem rcvSem
          (k0_pay8 (inQ m c)) (iota .tc S512x64 32 [0] iota_S512x64_d0_w32) k0_pay9 k0_pay10 k0_pay11) Q := by
  rw [k0_part3_eq_skeleton]
  unfold k0_part3_skel
  simp only [semSignalWord, semWaitWord, smemLoad, smemLoadElt, Prog.lift, Prog.bind_op, Prog.bind_ret, Prog.pure_eq_ret, wp_deviceId]
  iintro ⟨H1, H2, Hk⟩
  iapply (wp_load 𝒱₀ (c : Thread nD τ) none Set.univ (m := kM) (Finset.subset_univ _)) $$ H1; iintro H1
  rw [read_k]
  iapply (wp_load 𝒱₀ (c : Thread nD τ) none Set.univ (m := vM) (Finset.subset_univ _)) $$ H2; iintro H2
  rw [read_v, wp_ret]; imodintro
  unfold queryMat keyMat valMat zeroAcc
  iapply Hk
  isplitl [H1] <;> iassumption

/-- Fourth part: the block is stored into the send buffer and sent; the send buffer comes back. -/
theorem part4_run (K : Dev nD × Fin 3 → ℕ) (c : Dev nD) (W : Waits sig Unit) (v2 v5 v9 : BitVec 32)
    (Q : (Σ' (v130 : FVec F S1x64 .f32) (v138 : FVec F S1x64 .f32) (v148 : FVec F S64x64 .f32) (v161 : BitVec 32), BitVec 32) → sProp 𝕄) :
    iprop(records m K ∗ atPos EX (cell c 1) 0 ∅ 0 ∗ dutyTok EX (cell c 1) 0 () ∗ dutyTok EX (cell (mate c) 2) 0 ()
        ∗ (∃ f, sndAt c f) ∗ (∃ f, rcvAt (mate c) f) ∗ owes (c : Thread nD τ) (tallyAt (cell (mate c) 2) () credit) W
        ∗ ((atPos EX (cell c 1) 1 ∅ 0 ∗ sndAt c (sent m c) ∗ owes (c : Thread nD τ) 0 (insert (ctr 1, ()) W))
          -∗ Q ⟨ownMax m c, ownSum m c, ownVal m c, Scalar.addi 0#32 (Scalar.muli v2 4#32), 2#32⟩))
      ⊢ wp frame (wpE (defs₀ (F := F)) 𝒱₀ (c : Thread nD τ) none) Set.univ
        (k0_part4 (F := F) qM (Memref.isWhole_whole _) kM (Memref.isWhole_whole _) vM (Memref.isWhole_whole _) btM (Memref.isWhole_whole _)
          lenM (Memref.isWhole_whole _) outM (Memref.isWhole_whole _) sndM (Memref.isWhole_whole _) rcvM (Memref.isWhole_whole _) sndSem rcvSem c v2 v5 v9 (weights m c) (queryMat m c) (keyMat m c) (valMat m c) zeroAcc) Q := by
  rw [k0_part4_eq_skeleton]
  unfold k0_part4_skel
  simp only [semSignalWord, semWaitWord, smemLoad, smemLoadElt, Prog.lift, Prog.bind_op, Prog.bind_ret, Prog.pure_eq_ret, wp_deviceId]
  iintro ⟨#HR, HaS, HtS, HtV, ⟨%fs, Hs⟩, Hr, HO, Hk⟩
  ihave HB1 := (records_at m K c 1) $$ HR
  icases HB1 with ⟨#HIs, #HMs⟩
  unfold sndAt
  iapply (wp_load 𝒱₀ (c : Thread nD τ) none Set.univ (m := sndM) (Finset.subset_univ _)) $$ Hs; iintro Hs
  iapply (wp_store 𝒱₀ (c : Thread nD τ) none Set.univ (m := sndM) (r := blockRect) (Mk := Finset.univ) (Finset.subset_univ _)) $$ Hs; iintro Hs
  rw [store_snd]
  iapply (transfer m K c _ (dev2_mate c) W) $$ [Hs Hr HO HtS HtV]
  · isplitr; · iexact HR
    isplitl [Hs]; · unfold sndAt sent; iexact Hs
    isplitl [Hr]; · iexact Hr
    isplitl [HO]; · iexact HO
    isplitl [HtS] <;> iassumption
  iintro ⟨HcS, HO⟩
  iapply (Rounds.wp_wait_rest_token 𝒱₀ EX (sched m) (c : Thread nD τ) none (κ := K (c, 1))
      (wpE_waitDma2_eq 𝒱₀ (c : Thread nD τ) none Set.univ) (Set.mem_univ _) () (O := 0) (W := W) (R := 0) (m := 0) (T := ∅)
      (by rw [Nat.zero_add, expect_cell m c 1]; rfl)) $$ [HcS HO HaS]
  · isplitr; · iexact HIs
    isplitl [HcS]; · iexact HcS
    isplitl [HO]; · iexact HO
    isplitr; · rw [MayWait_zero]; iempintro
    iexact HaS
  iintro ⟨HO, HaS, -, Hpay⟩
  ihave Hs := (Entails.of_eq (rest_cell m c 1)) $$ Hpay
  unfold pay sndAt
  rw [wp_ret]; imodintro
  unfold ownMax ownSum ownVal
  iapply Hk
  isplitl [HaS]; · iexact HaS
  isplitl [Hs]; · iexact Hs
  iexact HO

/-- One head's store, with the load before it that nothing reads. -/
theorem store_head (c : Dev nD) (h : ℕ) (hb : ∀ a, (![0, 0, h, 0] : Fin 4 → ℕ) a + S8x1x1x64.size a ≤ S8x1x8x64.size a)
    (w : (headRect h hb).shape.Idx → Elt F .f32) (L : List (View.Piece (Elt F) S8x1x8x64 .f32)) (f : (cc0_stg5_0 : Ref sig .tc).ty.Contents (Elt F))
    {hl : (outM : Memref sig .tc .vmem S8x1x8x64 .f32).view.LoadsAt (headRect h hb).toLoadRect}
    {hx : ((outM : Memref sig .tc .vmem S8x1x8x64 .f32).access (headRect h hb)).Stores Finset.univ}
    {hm : (Finset.univ : Finset (headRect h hb).shape.Idx) = Finset.univ ∨ ∀ a, (headRect h hb).stride a = 1}
    {α : Type} {Q : α → sProp 𝕄} {k : PUnit → Prog (TpuEff nD τ sig (Elt F) Λ₀ .tc) α} :
    outAt c ((outM : Memref sig .tc .vmem S8x1x8x64 .f32).view.writes (Elt F) f L)
      ⊢ iprop((outAt c ((outM : Memref sig .tc .vmem S8x1x8x64 .f32).view.writes (Elt F) f (⟨headRect h hb, w⟩ :: L))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load outM (headRect h hb).toLoadRect hl) fun _ => .op (.store outM (headRect h hb) w Finset.univ hx hm) k) Q) := by
  unfold outAt
  iintro H5 Hk
  iapply (wp_load 𝒱₀ (c : Thread nD τ) none Set.univ (m := outM) (Finset.subset_univ _)) $$ H5; iintro H5
  iapply (wp_store_writes 𝒱₀ (c : Thread nD τ) none Set.univ (m := outM) (r := headRect h hb) (w := w) (L := L) (Finset.subset_univ _)) $$ H5; iintro H5
  iapply Hk; iexact H5

/-- Fifth part: the mate's block arrives and is combined; the first three heads are stored. -/
theorem part5_run (K : Dev nD × Fin 3 → ℕ) (c : Dev nD) (W : Waits sig Unit) (v5 v9 v161 w : BitVec 32) (f : (cc0_stg5_0 : Ref sig .tc).ty.Contents (Elt F))
    (Q : (Σ' (v185 : FVec F S64x64 .f32), FVec F S8x64 .f32) → sProp 𝕄) :
    iprop(records m K ∗ atPos EX (cell c 2) 0 ∅ 0 ∗ cred (tallyAt (cell c 2) () credit) ∗ owes (c : Thread nD τ) 0 W ∗ outAt c f
        ∗ ((atPos EX (cell c 2) 1 ∅ 0 ∗ rcvAt c (sent m (mate c)) ∗ owes (c : Thread nD τ) 0 (insert (ctr 2, ()) W)
            ∗ outAt c ((outM : Memref sig .tc .vmem S8x1x8x64 .f32).view.writes (Elt F) f (firstStores m c)))
          -∗ Q ⟨combined m c, k0_pay25 (ownMax m c) (ownSum m c) (ownVal m c) (sent m (mate c))⟩))
      ⊢ wp frame (wpE (defs₀ (F := F)) 𝒱₀ (c : Thread nD τ) none) Set.univ
        (k0_part5 (F := F) qM (Memref.isWhole_whole _) kM (Memref.isWhole_whole _) vM (Memref.isWhole_whole _) btM (Memref.isWhole_whole _)
          lenM (Memref.isWhole_whole _) outM (Memref.isWhole_whole _) sndM (Memref.isWhole_whole _) rcvM (Memref.isWhole_whole _) sndSem rcvSem v5 v9 (ownMax m c) (ownSum m c) (ownVal m c) v161 w) Q := by
  rw [k0_part5_eq_skeleton]
  unfold k0_part5_skel
  simp only [semSignalWord, semWaitWord, smemLoad, smemLoadElt, Prog.lift, Prog.bind_op, Prog.bind_ret, Prog.pure_eq_ret, wp_deviceId]
  iintro ⟨#HR, HaV, HcV, HO, H5, Hk⟩
  ihave HB2 := (records_at m K c 2) $$ HR
  icases HB2 with ⟨#HIr, #HMr⟩
  iapply (Rounds.wp_wait_rest_token 𝒱₀ EX (sched m) (c : Thread nD τ) none (κ := K (c, 2))
      (wpE_waitDma2_eq 𝒱₀ (c : Thread nD τ) none Set.univ) (Set.mem_univ _) () (O := 0) (W := W) (R := 0) (m := 0) (T := ∅)
      (by rw [Nat.zero_add, expect_cell m c 2]; rfl)) $$ [HcV HO HaV]
  · isplitr; · iexact HIr
    isplitl [HcV]; · iexact HcV
    isplitl [HO]; · iexact HO
    isplitr; · rw [MayWait_zero]; iempintro
    iexact HaV
  iintro ⟨HO, HaV, -, Hpay⟩
  ihave Hr := (Entails.of_eq (rest_cell m c 2)) $$ Hpay
  unfold pay rcvAt
  ihave H5 := (Entails.of_eq (show outAt c f = outAt c ((outM : Memref sig .tc .vmem S8x1x8x64 .f32).view.writes (Elt F) f []) from rfl)) $$ H5
  iapply (wp_load 𝒱₀ (c : Thread nD τ) none Set.univ (m := rcvM) (Finset.subset_univ _)) $$ Hr; iintro Hr
  rw [read_rcv]
  iapply (store_head c _ _ _ _ _) $$ H5; iintro H5
  iapply (store_head c _ _ _ _ _) $$ H5; iintro H5
  iapply (store_head c _ _ _ _ _) $$ H5; iintro H5
  rw [wp_ret]; imodintro
  unfold combined
  iapply Hk
  isplitl [HaV]; · iexact HaV
  isplitl [Hr]; · iexact Hr
  isplitl [HO]; · iexact HO
  iexact H5

/-- The run of the body. -/
theorem body_run (K : Dev nD × Fin 3 → ℕ) (c : Dev nD) (W : Waits sig Unit) (Q : PUnit → sProp 𝕄) :
    iprop(records m K ∗ own c ∗ cred (tallyAt (cell c 0) () 1) ∗ cred (tallyAt (cell c 2) () credit) ∗ levAts labels level
        ∗ (∃ f, sndAt c f) ∗ (∃ f, rcvAt c f) ∗ owes (c : Thread nD τ) (debt c) W ∗ inputs m c ∗ (∃ f, outAt c f)
        ∗ ((after m c ∗ (∃ W', owes (c : Thread nD τ) 0 W') ∗ inputs m c ∗ outAt c (outBlock m c)) -∗ Q ⟨⟩))
      ⊢ wp frame (wpE (defs₀ (F := F)) 𝒱₀ (c : Thread nD τ) none) Set.univ (bodyProg (F := F)) Q := by
  unfold bodyProg
  rw [cc0__body_eq_skeleton]; unfold cc0__body_skel
  simp only [Prog.lift, Prog.bind_op, Prog.bind_ret, Prog.pure_eq_ret, wp_bind]
  unfold own inputs
  rw [bigSep_three, bigSep_three]
  iintro ⟨#HR, ⟨⟨HaB, HaS, HaV⟩, HtB, HtS, HtV⟩, HcB, HcV, #Hlev, Hs, Hr, HO, ⟨H0, H1, H2, H3, H4⟩, ⟨%f5, H5⟩, Hk⟩
  iapply (part1_run m K c W)
  isplitr; · iexact HR
  isplitl [HaB]; · iexact HaB
  isplitl [HtB]; · iexact HtB
  isplitl [HcB]; · iexact HcB
  isplitr; · iexact Hlev
  isplitl [Hr]; · iexact Hr
  isplitl [HO]; · iexact HO
  isplitl [H4]; · iexact H4
  iintro ⟨HaB, Hr, HO, H4⟩
  dsimp only
  iapply (part2_run m c)
  isplitl [H3]; · iexact H3
  isplitl [H0]; · iexact H0
  iintro ⟨H3, H0⟩
  dsimp only
  iapply (part3_run m c)
  isplitl [H1]; · iexact H1
  isplitl [H2]; · iexact H2
  iintro ⟨H1, H2⟩
  dsimp only
  iapply (part4_run m K c _ _ _ _)
  isplitr; · iexact HR
  isplitl [HaS]; · iexact HaS
  isplitl [HtS]; · iexact HtS
  isplitl [HtV]; · iexact HtV
  isplitl [Hs]; · iexact Hs
  isplitl [Hr]; · iexact Hr
  isplitl [HO]; · iexact HO
  iintro ⟨HaS, Hs, HO⟩
  dsimp only
  iapply (part5_run m K c _ _ _ _ _ f5)
  isplitr; · iexact HR
  isplitl [HaV]; · iexact HaV
  isplitl [HcV]; · iexact HcV
  isplitl [HO]; · iexact HO
  isplitl [H5]; · iexact H5
  iintro ⟨HaV, Hr, HO, H5⟩
  dsimp only
  ihave HB0 := (records_at m K c 0) $$ HR
  icases HB0 with ⟨#HIb, #HMb⟩
  ihave HB1 := (records_at m K c 1) $$ HR
  icases HB1 with ⟨#HIs, #HMs⟩
  ihave HB2 := (records_at m K c 2) $$ HR
  icases HB2 with ⟨#HIr, #HMr⟩
  imod (Rounds.cell_close EX (sched m) (Set.mem_univ (K (c, 0))) (fun h => h) (R := 1) (duties_after m (cell c 0))) $$ [HaB] with HzB
  · isplitr; · iexact HIb
    iexact HaB
  imod (Rounds.cell_close EX (sched m) (Set.mem_univ (K (c, 1))) (fun h => h) (R := 1) (duties_after m (cell c 1))) $$ [HaS] with HzS
  · isplitr; · iexact HIs
    iexact HaS
  imod (Rounds.cell_close EX (sched m) (Set.mem_univ (K (c, 2))) (fun h => h) (R := 1) (duties_after m (cell c 2))) $$ [HaV] with HzV
  · isplitr; · iexact HIr
    iexact HaV
  iapply (store_head c _ _ _ _ _) $$ H5; iintro H5
  iapply (store_head c _ _ _ _ _) $$ H5; iintro H5
  iapply (store_head c _ _ _ _ _) $$ H5; iintro H5
  iapply (store_head c _ _ _ _ _) $$ H5; iintro H5
  iapply (store_head c _ _ _ _ _) $$ H5; iintro H5
  rw [wp_ret]; imodintro
  iapply Hk
  unfold after
  rw [bigSep_three]
  isplitl [Hs Hr HzB HzS HzV]
  · isplitl [Hs]; · iexact Hs
    isplitl [Hr]; · iexact Hr
    isplitl [HzB]; · iexact HzB
    isplitl [HzS] <;> iassumption
  isplitl [HO]
  · iexists _; iexact HO
  isplitl [H0 H1 H2 H3 H4]
  · isplitl [H0]; · iexact H0
    isplitl [H1]; · iexact H1
    isplitl [H2]; · iexact H2
    isplitl [H3] <;> iassumption
  rw [← stores_out m c f5]
  iexact H5

/-! ## The body as the pipeline asks for it -/

/-- A whole buffer, as the pipeline states that a device owns it. -/
theorem owns_whole (c : Dev nD) (b : Ref sig .tc) (X : b.ty.Contents (Elt F)) :
    (owns (Ix := Unit) (Name := ℕ) (U := Res) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer held with contents `X` is its window held with `X`. -/
theorem owns_elim (c : Dev nD) (b : Ref sig .tc) (X : b.ty.Contents (Elt F)) :
    (owns (Ix := Unit) (Name := ℕ) (U := Res) (Lvl := ℕ) (c : Thread nD τ) (Memref.whole b) fullShare X : sProp 𝕄)
      ⊢ ((c : Thread nD τ).loc b) ↦{fullShare} X := by
  rw [owns_whole]
  iintro ⟨%f, %h, H⟩
  subst h
  iexact H

/-- The converse. -/
theorem owns_intro (c : Dev nD) (b : Ref sig .tc) (X : b.ty.Contents (Elt F)) :
    (((c : Thread nD τ).loc b) ↦{fullShare} X : sProp 𝕄)
      ⊢ owns (Ix := Unit) (Name := ℕ) (U := Res) (Lvl := ℕ) (c : Thread nD τ) (Memref.whole b) fullShare X := by
  rw [owns_whole]
  iintro H
  iexists X
  isplitr; · ipureintro; rfl
  iexact H

/-- The staging buffers before the body, window by window. -/
abbrev held (c : Dev nD) (b : Ref sig .tc) (X : b.ty.Contents (Elt F)) : sProp 𝕄 :=
  owns (Ix := Unit) (Name := ℕ) (U := Res) (Lvl := ℕ) (c : Thread nD τ) (Memref.whole b) fullShare X

/-- The kernel's body meets what the pipeline's only step asks of it. -/
theorem body_obligation (c : Dev nD) : BodyObligation (dats (F := F) m 0 c) (defs₀ (F := F)) 𝒱₀ () Set.univ := fun t => by
  rw [fin_N0 t]
  have e5 (Φ : Fin cfg0.W → sProp 𝕄) := bigSep_W0 Φ
  rw [e5, e5]
  show iprop(before m c ∗ (dats m 0 c).owesAt () t0_0.castSucc
      ∗ (∃ d, held c cc0_stg0_0 ((dats m 0 c).before (0 : Fin 6) t0_0 d))
      ∗ (∃ d, held c cc0_stg1_0 ((dats m 0 c).before (1 : Fin 6) t0_0 d))
      ∗ (∃ d, held c cc0_stg2_0 ((dats m 0 c).before (2 : Fin 6) t0_0 d))
      ∗ (∃ d, held c cc0_stg3_0 ((dats m 0 c).before (3 : Fin 6) t0_0 d))
      ∗ (∃ d, held c cc0_stg4_0 ((dats m 0 c).before (4 : Fin 6) t0_0 d))
      ∗ (∃ d, held c cc0_stg5_0 ((dats m 0 c).before (5 : Fin 6) t0_0 d)))
    ⊢ wp frame (wpE (defs₀ (F := F)) 𝒱₀ (c : Thread nD τ) none) Set.univ (bodyProg (F := F)) fun _ =>
      iprop(after m c ∗ (dats m 0 c).owesAt () t0_0.succ
        ∗ held c cc0_stg0_0 (inQ m c) ∗ held c cc0_stg1_0 (inK m c) ∗ held c cc0_stg2_0 (inV m c) ∗ held c cc0_stg3_0 (inBt m c)
        ∗ held c cc0_stg4_0 (inLen m c) ∗ held c cc0_stg5_0 (outBlock m c))
  unfold before begin Dat.owesAt Pipeline.owesWithin
  rw [show (dats m 0 c).owed t0_0.castSucc = debt c from rfl, show (dats m 0 c).owed t0_0.succ = 0 from rfl]
  iintro ⟨⟨⟨⟨%K, #HR, Hown⟩, HcB, HcV, #Hlev⟩, Hs, Hr⟩, ⟨%W, %hW, HO⟩, ⟨%d0, H0⟩, ⟨%d1, H1⟩, ⟨%d2, H2⟩, ⟨%d3, H3⟩, ⟨%d4, H4⟩, ⟨%d5, H5⟩⟩
  have r0 : (dats m 0 c).before (0 : Fin 6) t0_0 d0 = inQ m c := by unfold Dat.before; rw [if_pos (fetch0_0 _)]; rfl
  have r1 : (dats m 0 c).before (1 : Fin 6) t0_0 d1 = inK m c := by unfold Dat.before; rw [if_pos (fetch0_1 _)]; rfl
  have r2 : (dats m 0 c).before (2 : Fin 6) t0_0 d2 = inV m c := by unfold Dat.before; rw [if_pos (fetch0_2 _)]; rfl
  have r3 : (dats m 0 c).before (3 : Fin 6) t0_0 d3 = inBt m c := by unfold Dat.before; rw [if_pos (fetch0_3 _)]; rfl
  have r4 : (dats m 0 c).before (4 : Fin 6) t0_0 d4 = inLen m c := by unfold Dat.before; rw [if_pos (fetch0_4 _)]; rfl
  rw [r0, r1, r2, r3, r4]
  iapply (body_run m K c W)
  isplitr; · iexact HR
  isplitl [Hown]; · iexact Hown
  isplitl [HcB]; · iexact HcB
  isplitl [HcV]; · iexact HcV
  isplitr; · iexact Hlev
  isplitl [Hs]; · iexact Hs
  isplitl [Hr]; · iexact Hr
  isplitl [HO]; · iexact HO
  isplitl [H0 H1 H2 H3 H4]
  · unfold inputs
    isplitl [H0]; · iapply (owns_elim c cc0_stg0_0); iexact H0
    isplitl [H1]; · iapply (owns_elim c cc0_stg1_0); iexact H1
    isplitl [H2]; · iapply (owns_elim c cc0_stg2_0); iexact H2
    isplitl [H3]; · iapply (owns_elim c cc0_stg3_0); iexact H3
    iapply (owns_elim c cc0_stg4_0); iexact H4
  isplitl [H5]
  · iexists _; unfold outAt; iapply (owns_elim c cc0_stg5_0); iexact H5
  iintro ⟨Ha, ⟨%W', HO⟩, Hin, H5⟩
  unfold inputs outAt
  icases Hin with ⟨H0, H1, H2, H3, H4⟩
  isplitl [Ha]; · iexact Ha
  isplitl [HO]
  · iexists W'
    isplitr; · ipureintro; exact fun _ _ => Or.inl trivial
    iexact HO
  isplitl [H0]; · iapply (owns_intro c cc0_stg0_0); iexact H0
  isplitl [H1]; · iapply (owns_intro c cc0_stg1_0); iexact H1
  isplitl [H2]; · iapply (owns_intro c cc0_stg2_0); iexact H2
  isplitl [H3]; · iapply (owns_intro c cc0_stg3_0); iexact H3
  isplitl [H4]; · iapply (owns_intro c cc0_stg4_0); iexact H4
  iapply (owns_intro c cc0_stg5_0); iexact H5

end Cert.KernelIdeal.Exchange

end
-- ==== Proof.KernelIdealLaunch.lean ====
/-
The launch: from any memory with zero counters, every run of the program ends, with every window's array at what the
body leaves and every counter at zero.
-/
module

public import proofs.«01_k».proof.Proof.KernelIdealBody
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ Res ℕ

variable (m : (ℓ : Loc nD τ sig) → Buf (Elt F) ℓ) (ρ : Dev nD → PrngReg)

/-! ## Dealing the ghost state -/

/-- The kernel's own scoped counters: send and receive. -/
abbrev ownSems : Fin 2 → SemLoc sig := fun | 0 => ctr 1 | 1 => ctr 2

/-- The call's own counters are apart from the pipeline's. -/
theorem ownSemsFacts : Pipeline.OwnSemFacts cfg0.spec ownSems := by decide

/-- Every array is held whole. -/
theorem share_full (c : Dev nD) (w : Fin cfg0.W) : (dats m 0 c).share w = fullShare := by unfold Dat.share; split <;> rfl

/-- The cell of a device and a counter. -/
abbrev key (ck : Dev nD × Fin 3) : GSem nD τ sig := cell ck.1 ck.2

/-- Different devices or counters have different cells. -/
theorem key_injective : Function.Injective key := fun a b h => Prod.ext (cell_inj h).1 (cell_inj h).2

/-- All cells of the exchange. -/
def allCells : Finset (GSem nD τ sig) := Finset.univ.map ⟨key, key_injective⟩
/-- The tokens of all duties. -/
def allToks : Finset (GSem nD τ sig × ℕ × Unit) :=
  Finset.univ.map ⟨fun ck : Dev nD × Fin 3 => (key ck, 0, ()), fun _ _ h => key_injective (congrArg Prod.fst h)⟩

/-- The initial ghost state: the staging pipeline's, and one round at each of the counters. -/
def ghost₀ : Res := (initOf (Pipeline.cells cfgs cellOf_inj) (Pipeline.launchToks cfgs cellOf_inj), initOf allCells allToks)

/-- One counter's part of the initial ghost state. -/
def part (ck : Dev nD × Fin 3) : sProp 𝕄 :=
  iprop(roundState EX (sched m) (key ck) 0 ∗ (atPos EX (key ck) 0 ∅ 0 ∗ reached EX (key ck) 0) ∗ dutyTok EX (key ck) 0 ())

/-- One device's part of the initial ghost state. -/
def parts (c : Dev nD) : sProp 𝕄 := bigSep Finset.univ fun k : Fin 3 => part m (c, k)

/-- The initial ghost state splits into one part for each device. -/
theorem fund_parts : BI.own (EX (initOf allCells allToks)) ⊢ (|==> bigSep Finset.univ (parts m) : sProp 𝕄) := by
  have hc (Φ : GSem nD τ sig → sProp 𝕄) : bigSep allCells Φ = bigSep Finset.univ fun ck : Dev nD × Fin 3 => Φ (key ck) := by
    unfold allCells; rw [bigSep_map]; rfl
  have ht : bigSep allToks (fun x => (dutyTok EX x.1 x.2.1 x.2.2 : sProp 𝕄)) = bigSep Finset.univ fun ck : Dev nD × Fin 3 => dutyTok EX (key ck) 0 () := by
    unfold allToks; rw [bigSep_map]; rfl
  have hp : bigSep Finset.univ (parts m) = bigSep Finset.univ (part m) := (bigSep_univ_prod (part m)).symm
  rw [hp]
  unfold part
  rw [bigSep_sep', bigSep_sep', bigSep_sep', ← hc (fun g => roundState EX (sched m) g 0), ← hc (fun g => atPos EX g 0 ∅ 0), ← hc (fun g => reached EX g 0), ← ht]
  iintro H
  imod (Rounds.fund EX (sched m) allCells allToks) $$ H with ⟨Hs, Hr, Ha, Ht⟩
  imodintro
  isplitl [Hs]; · iexact Hs
  isplitl [Ha Hr]
  · isplitl [Ha] <;> iassumption
  iexact Ht

/-- The three counters of a device at zero, as the launch hands them over. -/
theorem zeros_eq (c : Dev nD) :
    iprop(Pipeline.ownSems0 (Ix := Unit) (Name := ℕ) (U := Res) (Lvl := ℕ) (Val := Elt F) (τ := τ) ownSems c ∗ unscopedSems0 c)
      = iprop((semVal (cell c 1) 0 ∗ semVal (cell c 2) 0) ∗ (semVal (cell c 0) 0 : sProp 𝕄)) := by
  have h1 : (Pipeline.ownSems0 (Ix := Unit) (Name := ℕ) (U := Res) (Lvl := ℕ) (Val := Elt F) (τ := τ) ownSems c : sProp 𝕄)
      = iprop(semVal (cell c 1) 0 ∗ semVal (cell c 2) 0) := by
    rw [Pipeline.ownSems0_eq_of_list c ownSems [0, 1] (by decide) (by decide)]; rfl
  have h2 : (unscopedSems0 c : sProp 𝕄) = semVal (cell c 0) 0 := by
    unfold unscopedSems0; rw [bigSep_eq_bigSepL_of_eq [ctr 0] (by decide) (by decide)]; rfl
  rw [h1, h2]

/-- A counter at zero and its round state become its invariant. -/
theorem open_counter (ck : Dev nD × Fin 3) :
    iprop(semVal (key ck) 0 ∗ part m ck) ⊢ (|={Set.univ}=> iprop((∃ κ : ℕ, cellInv EX (sched m) κ (key ck))
      ∗ (atPos EX (key ck) 0 ∅ 0 ∗ reached EX (key ck) 0) ∗ dutyTok EX (key ck) 0 ()) : sProp 𝕄) := by
  unfold part
  iintro ⟨Hz, Hs, Ha, Ht⟩
  imod ((Rounds.body_intro EX (sched m) (key ck)).trans inv_alloc) $$ [Hz Hs] with HI
  · isplitl [Hz] <;> iassumption
  imodintro
  isplitl [HI]; · iexact HI
  isplitl [Ha] <;> iassumption

/-- One device's cells open their invariants. -/
theorem open_device (c : Dev nD) :
    iprop(Pipeline.ownSems0 (Ix := Unit) (Name := ℕ) (U := Res) (Lvl := ℕ) (Val := Elt F) (τ := τ) ownSems c ∗ unscopedSems0 c ∗ parts m c)
      ⊢ (|={Set.univ}=> bigSep Finset.univ fun k : Fin 3 => iprop((∃ κ : ℕ, cellInv EX (sched m) κ (key (c, k)))
          ∗ (atPos EX (key (c, k)) 0 ∅ 0 ∗ reached EX (key (c, k)) 0) ∗ dutyTok EX (key (c, k)) 0 ()) : sProp 𝕄) := by
  refine BIBase.Entails.trans ?_ ((bigSep_mono fun k _ => open_counter m (c, k)).trans (bigSep_fupd _ _))
  rw [bigSep_sep', bigSep_three]
  unfold parts
  iintro ⟨H1, H2, H3⟩
  ihave Hz := (Entails.of_eq (zeros_eq (F := F) c)) $$ [H1 H2]
  · isplitl [H1] <;> iassumption
  icases Hz with ⟨⟨HS, HV⟩, HB⟩
  isplitr [H3]
  · isplitl [HB]; · iexact HB
    isplitl [HS] <;> iassumption
  iexact H3

/-- The records, once every counter has its invariant, and what is dealt to each device. -/
theorem deal :
    (bigSep Finset.univ fun c : Dev nD => bigSep Finset.univ fun k : Fin 3 => iprop((∃ κ : ℕ, cellInv EX (sched m) κ (key (c, k)))
          ∗ (atPos EX (key (c, k)) 0 ∅ 0 ∗ reached EX (key (c, k)) 0) ∗ dutyTok EX (key (c, k)) 0 ()) : sProp 𝕄)
      ⊢ bigSep Finset.univ fun c : Dev nD => iprop(∃ K, records m K ∗ own c) := by
  have hpay : (bigSep Finset.univ fun ck : Dev nD × Fin 3 => (dutyTok EX (key ck) 0 () : sProp 𝕄))
      = bigSep Finset.univ fun c : Dev nD => bigSep Finset.univ fun k : Fin 3 => dutyTok EX (cell (target (c, k)).1 (target (c, k)).2) 0 () := by
    rw [← bigSep_univ_prod (fun ck : Dev nD × Fin 3 => (dutyTok EX (cell (target ck).1 (target ck).2) 0 () : sProp 𝕄))]
    exact bigSep_univ_equiv (Function.Involutive.toPerm target target_target) (fun ck : Dev nD × Fin 3 => (dutyTok EX (key ck) 0 () : sProp 𝕄))
  rw [← bigSep_univ_prod (fun ck : Dev nD × Fin 3 => iprop((∃ κ : ℕ, cellInv EX (sched m) κ (key ck))
          ∗ (atPos EX (key ck) 0 ∅ 0 ∗ reached EX (key ck) 0) ∗ dutyTok EX (key ck) 0 ())), bigSep_sep', bigSep_sep', bigSep_sep', hpay]
  have hown : (bigSep Finset.univ fun c : Dev nD => own (F := F) c)
      = iprop((bigSep Finset.univ fun ck : Dev nD × Fin 3 => atPos EX (key ck) 0 ∅ 0)
        ∗ bigSep Finset.univ fun c : Dev nD => bigSep Finset.univ fun k : Fin 3 => (dutyTok EX (cell (target (c, k)).1 (target (c, k)).2) 0 () : sProp 𝕄)) := by
    unfold own; rw [bigSep_sep', bigSep_univ_prod]
  have hrec (K : Dev nD × Fin 3 → ℕ) : records m K
      = iprop((bigSep Finset.univ fun ck : Dev nD × Fin 3 => cellInv EX (sched m) (K ck) (key ck))
        ∗ bigSep Finset.univ fun ck : Dev nD × Fin 3 => (reached EX (key ck) 0 : sProp 𝕄)) := by
    unfold records; rw [bigSep_sep']
  have hone (K : Dev nD × Fin 3 → ℕ) (c : Dev nD) : iprop(records m K ∗ own (F := F) c) ⊢ (iprop(∃ K, records m K ∗ own (F := F) c) : sProp 𝕄) := by
    iintro H
    iexists K
    iexact H
  iintro ⟨HI, ⟨Ha, #Hr⟩, Ht⟩
  ihave HK := (BI.bigSep_exists_pi Finset.univ (fun (ck : Dev nD × Fin 3) (κ : ℕ) => (cellInv EX (sched m) κ (key ck) : sProp 𝕄))) $$ HI
  icases HK with ⟨%K, #HI⟩
  ihave Hall : (iprop(records m K ∗ bigSep Finset.univ fun c : Dev nD => own (F := F) c)) $$ [Ha Ht]
  · rw [hown, hrec]
    isplitr
    · isplitr; · iexact HI
      iexact Hr
    isplitl [Ha] <;> iassumption
  have hdeal : iprop(records m K ∗ bigSep Finset.univ fun c : Dev nD => own (F := F) c)
      ⊢ bigSep Finset.univ fun c : Dev nD => iprop(∃ K, records m K ∗ own (F := F) c) :=
    (sep_mono_left (BI.bigSep_of_persistent Finset.univ (records m K))).trans (by
      rw [← bigSep_sep']
      exact bigSep_mono fun c _ => hone K c)
  iapply hdeal
  iexact Hall

/-- All cells open their invariants. -/
theorem open_all :
    (bigSep Finset.univ fun c => iprop(Pipeline.ownSems0 (Ix := Unit) (Name := ℕ) (U := Res) (Lvl := ℕ) (Val := Elt F) (τ := τ) ownSems c ∗ unscopedSems0 c ∗ parts m c) : sProp 𝕄)
      ⊢ |={Set.univ}=> bigSep Finset.univ fun c : Dev nD => iprop(∃ K, records m K ∗ own c) :=
  ((bigSep_mono fun c _ => open_device m c).trans (bigSep_fupd _ _)).trans (BI.fupd_mono (deal m))

/-! ## The credit a device's counters get at the launch -/

/-- What device `d` owes at counter `k` of device `c`. -/
theorem debt_cell (d c : Dev nD) (k : Fin 3) : debt d (cell c k) () = if d = mate c then (if k = 1 then 0 else units k) else 0 := by
  have hkey (j : Fin 3) : (cell c k = cell (mate d) j ∧ () = ()) ↔ (d = mate c ∧ k = j) :=
    ⟨fun h => ⟨by rw [(cell_inj h.1).1, mate_mate], (cell_inj h.1).2⟩, fun h => ⟨by rw [h.1, mate_mate, h.2], rfl⟩⟩
  unfold debt
  rw [Pi.add_apply, Finsupp.add_apply, tallyAt_apply, tallyAt_apply]
  rw [if_congr (hkey 0) rfl rfl, if_congr (hkey 2) rfl rfl]
  by_cases hd : d = mate c
  · rw [if_pos hd]; fin_cases k <;> simp [hd, units]
  · rw [if_neg hd, if_neg fun h => hd h.1, if_neg fun h => hd h.1]

/-- What the launch credits to a barrier or a receive counter is what one payment into it adds. -/
theorem credit_cell (c : Dev nD) (k : Fin 3) (hk : k ≠ 1) :
    tallyOn (cell c k) (launchCredit (Pipeline.owing debt) 0 (cell c k)) = (tallyAt (cell c k) () (units k) : CellTallies nD τ sig Unit) := by
  unfold tallyAt; refine congrArg _ (Finsupp.ext fun u => ?_); cases u
  rw [Pipeline.launchCredit_owing, Finsupp.single_eq_same, Finset.sum_congr rfl fun d _ => debt_cell d c k,
    Finset.sum_ite_eq' Finset.univ (mate c) fun _ => if k = 1 then 0 else units k, if_pos (Finset.mem_univ _), if_neg hk]

/-- A device's credits at the start. -/
theorem credits (c : Dev nD) :
    (Pipeline.launchCred debt c : sProp 𝕄) ⊢ iprop(cred (tallyAt (cell c 0) () 1) ∗ cred (tallyAt (cell c 2) () credit)) := by
  have h0 : (tallyAt (cell c 0) () 1 : CellTallies nD τ sig Unit) = _ := (credit_cell c 0 (by decide)).symm
  have h2 : (tallyAt (cell c 2) () credit : CellTallies nD τ sig Unit) = _ := (credit_cell c 2 (by decide)).symm
  rw [h0, h2]
  unfold Pipeline.launchCred
  rw [bigSep_univ_at _ (ctr 0)]
  refine sep_mono_right ?_
  exact bigSep_elim (Finset.mem_erase.mpr ⟨fun h => absurd (ctr_injective h) (by decide), Finset.mem_univ (ctr 2)⟩)

/-! ## The launch theorem's conditions -/

/-- What the launch deals to a device is what it begins with. -/
theorem begin_intro (c : Dev nD) :
    iprop(Pipeline.unscopedRestP Pipeline.Prefetch.none cfg0.spec c (fun b => m ((c : Thread nD τ).loc b)) ∗ levAts labels level
        ∗ Pipeline.launchCred debt c ∗ prngReg c (ρ c) ∗ (∃ K, records m K ∗ own c))
      ⊢ |={Set.univ}=> iprop(begin m c ∗ emp) := by
  iintro ⟨-, Hlev, Hcr, -, HG⟩
  ihave Hc := (credits (F := F) c) $$ Hcr
  icases Hc with ⟨H1, HN⟩
  imodintro
  unfold begin
  isplitl
  · isplitl [HG]; · iexact HG
    isplitl [H1]; · iexact H1
    isplitl [HN] <;> iassumption
  · iempintro

/-- What a device begins with, and its two buffers, is what it holds before its step. -/
theorem before_intro (c : Dev nD) :
    iprop(begin m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before sndAt rcvAt
  iintro ⟨Hs, -, Hr⟩
  isplitl [Hs] <;> iassumption

/-- What the kernel leaves is what the call's end asks for. -/
theorem after_exit (c : Dev nD) :
    (dats m 0 c).Φ (Fin.last cfg0.N) ⊢ iprop(unscopedSems0 c ∗ Pipeline.ownSems0 ownSems c ∗ Pipeline.scopedRest cfg0.spec c) := by
  rw [show (dats m 0 c).Φ (Fin.last cfg0.N) = after m c from rfl, scopedRest0_eq]
  unfold after sndAt rcvAt
  rw [bigSep_three]
  iintro ⟨Hs, Hr, HB, HS, HV⟩
  ihave Hz := (Entails.of_eq (zeros_eq (F := F) c).symm) $$ [HB HS HV]
  · isplitr [HB]
    · isplitl [HS] <;> iassumption
    iexact HB
  icases Hz with ⟨H1, H2⟩
  isplitl [H2]; · iexact H2
  isplitl [H1]; · iexact H1
  isplitl [Hs]
  · iexists (sent m c); iexact Hs
  iexists (sent m (mate c)); iexact Hr

/-- The pipeline's own waits are allowed. -/
theorem staging_waits (c : Dev nD) : (levAts labels level : sProp 𝕄) ⊢ Pipeline.cellsWaits cfgs (dats m) () 0 c :=
  Pipeline.cellsWaits_intro cfgs (dats m) () 0 c fun w s t => by
    rcases t with ⟨_ | _, ht⟩
    · exact mayWait_other c _ (by fin_cases w <;> fin_cases s <;> rfl)
    · exact mayWait c _ 0 fun g u h => absurd h (Nat.lt_irrefl 0)

/-! ## The run -/

/-- What window `w`'s array holds at the end. -/
def finalArr (c : Dev nD) (w : Fin cfg0.W) : Buf (Elt F) ((cfg0.win w).arr.view.loc (c : Thread nD τ)) := (dats m 0 c).arrAt w cfg0.N

/-- What every final state satisfies. -/
def Ended (r : PUnit × MemSt nD τ sig (Elt F)) : Prop :=
  (∀ c : Dev nD, ∀ w : Fin cfg0.W, r.2.mem ((cfg0.win w).arr.view.loc (c : Thread nD τ)) = finalArr m c w) ∧ r.2.sem = fun _ => 0

set_option maxRecDepth 8000 in
/-- From any memory with zero counters every weakly fair run of `main` ends, with every window's array at what the
    body left and every counter at zero. -/
theorem run_main : θ_run defs (onTc (τ := τ) (main (F := F))) (start₀ m ρ) (Ended m) :=
  Pipeline.θ_run_region_owing_glob_pf (fun p => (cfgs p).toPCfg) (fun p => (cfgs p).toPCfg_adm) (dats m) () cellOf_inj (0 : Fin 1)
    winFacts0.to₀ ownSemsFacts (Pipeline.PreFacts.none _) EPipe defs₀ 𝒱₀ m ρ main
    (hmain := fun _ => rfl)
    (hbody := body_obligation m) (hne := block_pos0) (harr := arr_whole0) (hstage := stage_whole0) (hshare := share_full m)
    (hdistinct := winFacts0.arr_inj)
    (O₀ := debt) (howed₀ := fun _ => rfl) (howedN := fun _ => rfl)
    (L := labels) (lv := level) (hL := labels_ne) (hwaits := staging_waits m)
    (G := parts m) (G' := fun c => iprop(∃ K, records m K ∗ own c)) (u₀ := ghost₀)
    (hu₀ := by
      unfold ghost₀
      iintro Hu
      ihave H := (ownU_pair _ _) $$ Hu
      icases H with ⟨HP, HX⟩
      imod (fund_parts m) $$ HX with HG
      imodintro
      isplitl [HP] <;> iassumption)
    (hglob := open_all m)
    (hA := fun _ _ => rfl) (hpf := fun _ k => k.elim0)
    (X := begin m) (Y := fun c => unscopedSems0 c) (Z := fun _ => iprop(emp))
    (hX := begin_intro m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input window's array ends as it began. -/
theorem final_in (c : Dev nD) (w : Fin cfg0.W) (hw : (cfg0.win w).isOut = false) :
    finalArr m c w = m ((cfg0.win w).arr.view.loc (c : Thread nD τ)) := (dats m 0 c).arrAt_in w hw _

/-- The result array ends at the block the body leaves. -/
theorem final_out (c : Dev nD) : finalArr m c (5 : Fin 6) = outBlock m c := by
  unfold finalArr
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans (View.read_write_univ _ _)

/-- The same run read at the program's arrays: on every device the result is `outBlock`, the five arguments are what they
    were, and every counter is zero. -/
theorem run_arrays : θ_run defs (onTc (τ := τ) (main (F := F))) (start₀ m ρ) fun r =>
    (∀ c : Dev nD, r.2.mem ((c.tc : Thread nD τ).loc main_v1) = outBlock m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun _ h => ⟨fun c => ⟨(h.1 c 5).trans (final_out m c), (h.1 c 0).trans (final_in m c 0 rfl),
    (h.1 c 1).trans (final_in m c 1 rfl), (h.1 c 2).trans (final_in m c 2 rfl), (h.1 c 3).trans (final_in m c 3 rfl),
    (h.1 c 4).trans (final_in m c 4 rfl)⟩, h.2⟩) (run_main m ρ)

end Cert.KernelIdeal.Exchange

end
-- ==== Proof.Frames.lean ====
/-
The three claims about runs — every run of each program ends, with its arguments unchanged and every counter at zero —
and the claim about the named constant.
-/
module

public import proofs.«01_k».proof.Defs
public import proofs.«01_k».proof.Proof.KernelLaunch
public import proofs.«01_k».proof.Proof.KernelIdealLaunch
public import proofs.«01_k».proof.Proof.Gen.ReferenceIdeal
public import proofs.«01_k».proof.Proof.Gen.ReferenceIdeal.Run
public import Idealize.ShloMosaic.Lib.Quiescent
public import Idealize.ShloMosaic.Init

@[expose] public section

noncomputable section

namespace Cert.Proof

open Idealize.ShloMosaic Idealize.ShloMosaic.TcCoe Idealize.SL.Sem

/-- The kernel at its own formats. -/
theorem frame_p : Cert.quiescent_Kernel := fun m ρ _ =>
  (θ_run Cert.Kernel.defs _ _).mono (fun _ h => ⟨fun c => (h.1 c).2, h.2⟩) (Cert.Kernel.Exchange.run_arrays (F := Bits) m ρ)

/-- The kernel over the extended reals. -/
theorem frame_pi : Cert.quiescent_KernelIdeal := fun m ρ _ =>
  (θ_run Cert.KernelIdeal.defs _ _).mono (fun _ h => ⟨fun c => (h.1 c).2, h.2⟩) (Cert.KernelIdeal.Exchange.run_arrays (F := Ideal) m ρ)

/-- The reference over the extended reals; it declares no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The large negative fill of masked scores is read as `-∞`. -/
theorem preserves : Cert.preserves_Kernel_KernelIdeal :=
  IdealRules.named_const.statement Cert.KernelIdeal.κ "mask" .f32 0xF149F2CA#32 ⊥ rfl

end Cert.Proof

end
-- ==== Proof.SplitSoftmax.lean ====
/-
A softmax-weighted sum taken over pieces, on the extended reals.

`T` indexes the key rows one device holds; `count z t` says how many table entries name row `t` of device `z`. Each device
takes its own maximum over the rows that are named at all, weighs every exponential with the row's count, and the two
partial results are rescaled to the common maximum. `split_eq_plain` says that this is the plain softmax average over
the table entries. Only the scores have to be real; the values may be any extended reals.
-/
module

public import Idealize.ShloMosaic.PureOps.Ideal
public import Idealize.ShloMosaic.PureOps.Ideal.Laws
public import Mathlib.Algebra.BigOperators.Group.Finset.Sigma

@[expose] public section

noncomputable section

namespace Cert.SplitSoftmax

open Idealize.ShloMosaic

/-- The word of minus infinity. -/
theorem negInf : Ideal.ofBits .f32 0xFF800000#32 = ⊥ := by simp [Ideal.ofBits, Ideal.ieee]

/-- The exponential of a real number is a real number. -/
theorem exp_real (r : ℝ) : Ideal.exp (r : EReal) = ((Real.exp r : ℝ) : EReal) := rfl

/-- A non-negative real factor moves into a sum of extended reals. -/
theorem real_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

/-- A sum of real numbers, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest entry. -/
def top {ι : Type} [Fintype ι] (f : ι → EReal) : EReal := Finset.univ.fold max ⊥ f

/-- The largest entry is at most `b` when every entry is. -/
theorem top_le {ι : Type} [Fintype ι] (f : ι → EReal) (b : EReal) : top f ≤ b ↔ ∀ i, f i ≤ b := by
  unfold top
  rw [Finset.fold_max_le]
  simp

/-- Every entry is at most the largest. -/
theorem le_top {ι : Type} [Fintype ι] (f : ι → EReal) (i : ι) : f i ≤ top f := (top_le f _).1 le_rfl i

section OneDevice

variable {T : Type} [Fintype T] (n : T → ℕ) (x : T → ℝ)

/-- The score of a row, or `-∞` where nothing names the row. -/
def score (t : T) : EReal := if 0 < n t then (x t : EReal) else ⊥

/-- The device's maximum. -/
def peak : EReal := top (score n x)

/-- The weight of a row: its exponential, as often as the row is named. -/
def mass (t : T) : EReal := Ideal.exp (score n x t - peak n x) * ((n t : ℝ) : EReal)

/-- The device's maximum, rescaled to a real bound `μ`, is a non-negative real factor. -/
theorem scale_real (μ : ℝ) (h : peak n x ≤ μ) : ∃ a : ℝ, 0 ≤ a ∧ Ideal.exp (peak n x - μ) = a := by
  induction hp : peak n x using EReal.rec with
  | bot => exact ⟨0, le_rfl, by rw [EReal.bot_sub]; rfl⟩
  | top => rw [hp] at h; exact absurd h (by simp)
  | coe p => exact ⟨Real.exp (p - μ), (Real.exp_pos _).le, by rw [← EReal.coe_sub, exp_real]⟩

/-- Rescaling a weight from its own maximum to a larger one. -/
theorem mass_scaled (μ : ℝ) (h : peak n x ≤ μ) (t : T) :
    Ideal.exp (peak n x - μ) * mass n x t = (((n t : ℝ) * Real.exp (x t - μ) : ℝ) : EReal) := by
  unfold mass
  rcases Nat.eq_zero_or_pos (n t) with h0 | h0
  · simp [h0]
  · have hle : (x t : EReal) ≤ peak n x := by
      have := le_top (score n x) t
      rwa [score, if_pos h0] at this
    rw [score, if_pos h0]
    induction hp : peak n x using EReal.rec with
    | bot => rw [hp] at hle; exact absurd hle (by simp)
    | top => rw [hp] at h; exact absurd h (by simp)
    | coe p =>
      rw [← EReal.coe_sub, ← EReal.coe_sub, exp_real, exp_real, ← EReal.coe_mul, ← EReal.coe_mul]
      refine congrArg _ ?_
      rw [show x t - μ = (p - μ) + (x t - p) by ring, Real.exp_add]
      ring

/-- The device's weighted sum, rescaled. -/
theorem sum_scaled (v : T → EReal) (μ : ℝ) (h : peak n x ≤ μ) :
    (∑ t, v t * mass n x t) * Ideal.exp (peak n x - μ) = ∑ t, (((n t : ℝ) * Real.exp (x t - μ) : ℝ) : EReal) * v t := by
  obtain ⟨a, ha, hae⟩ := scale_real n x μ h
  rw [mul_comm, hae, real_mul_sum _ _ ha, ← hae]
  refine Finset.sum_congr rfl fun t _ => ?_
  rw [← mass_scaled n x μ h t, mul_comm (v t), mul_assoc]

/-- The device's total weight, rescaled. -/
theorem mass_sum_scaled (μ : ℝ) (h : peak n x ≤ μ) :
    (∑ t, mass n x t) * Ideal.exp (peak n x - μ) = ((∑ t, (n t : ℝ) * Real.exp (x t - μ) : ℝ) : EReal) := by
  have := sum_scaled n x (fun _ => 1) μ h
  simp only [one_mul, mul_one] at this
  rw [this, coe_sum]

end OneDevice

section TwoDevices

variable {K T : Type} [Fintype K] [Fintype T] [DecidableEq T] (used : K → Prop) [DecidablePred used]
  (row : K → Fin 2 × T) (x : Fin 2 × T → ℝ) (v : Fin 2 × T → EReal)

/-- How many table entries in use name row `t` of device `z`. -/
def count (z : Fin 2) (t : T) : ℕ := (Finset.univ.filter fun k => used k ∧ row k = (z, t)).card

/-- The two devices' results put together, `z` the device that does it. -/
def split (z : Fin 2) : EReal :=
  let M := max (peak (count used row z) fun t => x (z, t)) (peak (count used row (1 - z)) fun t => x (1 - z, t))
  let a := Ideal.exp ((peak (count used row z) fun t => x (z, t)) - M)
  let b := Ideal.exp ((peak (count used row (1 - z)) fun t => x (1 - z, t)) - M)
  Ideal.div ((∑ t, v (z, t) * mass (count used row z) (fun t => x (z, t)) t) * a
      + (∑ t, v (1 - z, t) * mass (count used row (1 - z)) (fun t => x (1 - z, t)) t) * b)
    ((∑ t, mass (count used row z) (fun t => x (z, t)) t) * a + (∑ t, mass (count used row (1 - z)) (fun t => x (1 - z, t)) t) * b)

/-- The score of a table entry, `-∞` where it is not in use. -/
def entry (k : K) : EReal := if used k then (x (row k) : EReal) else ⊥

/-- The plain softmax average over the table entries. -/
def plain : EReal :=
  ∑ k, Ideal.div (Ideal.exp (entry used row x k - top (entry used row x)))
    (∑ j, Ideal.exp (entry used row x j - top (entry used row x))) * v (row k)

/-- A sum over rows, each as often as it is named, is the sum over the entries in use. -/
theorem sum_rows (f : Fin 2 × T → EReal) :
    (∑ z, ∑ t, ((count used row z t : ℝ) : EReal) * f (z, t)) = ∑ k ∈ Finset.univ.filter used, f (row k) := by
  rw [← Fintype.sum_prod_type' (f := fun z t => ((count used row z t : ℝ) : EReal) * f (z, t)),
    ← Finset.sum_fiberwise (Finset.univ.filter used) row (fun k => f (row k))]
  refine Finset.sum_congr rfl fun p _ => ?_
  rw [Finset.sum_congr rfl (g := fun _ => f p) fun k hk => by rw [(Finset.mem_filter.1 hk).2], Finset.sum_const,
    EReal.nsmul_eq_mul, Finset.filter_filter]
  rfl

/-- A row has a positive count when some used entry names it. -/
theorem count_pos {z : Fin 2} {t : T} : 0 < count used row z t ↔ ∃ k, used k ∧ row k = (z, t) := by
  unfold count
  rw [Finset.card_pos]
  exact ⟨fun ⟨k, hk⟩ => ⟨k, (Finset.mem_filter.1 hk).2⟩, fun ⟨k, hk⟩ => ⟨k, Finset.mem_filter.2 ⟨Finset.mem_univ _, hk⟩⟩⟩

/-- A half's maximum is at most the maximum of all entries. -/
theorem peak_le (z : Fin 2) : (peak (count used row z) fun t => x (z, t)) ≤ top (entry used row x) := by
  refine (top_le _ _).2 fun t => ?_
  unfold score
  split
  · next h =>
    obtain ⟨k, hk, hr⟩ := (count_pos used row).1 h
    have := le_top (entry used row x) k
    rwa [entry, if_pos hk, hr] at this
  · exact bot_le

/-- The common maximum of the two devices is the maximum over the entries. -/
theorem peaks (z : Fin 2) :
    max (peak (count used row z) fun t => x (z, t)) (peak (count used row (1 - z)) fun t => x (1 - z, t)) = top (entry used row x) := by
  refine le_antisymm (max_le (peak_le used row x z) (peak_le used row x _)) ((top_le _ _).2 fun k => ?_)
  unfold entry
  split
  · next h =>
    have hle (z' : Fin 2) (hz : (row k).1 = z') : (x (row k) : EReal) ≤ peak (count used row z') fun t => x (z', t) := by
      have := le_top (score (count used row z') fun t => x (z', t)) (row k).2
      rwa [score, if_pos ((count_pos used row).2 ⟨k, h, Prod.ext hz rfl⟩), show (z', (row k).2) = row k from Prod.ext hz.symm rfl] at this
    rcases (show (row k).1 = z ∨ (row k).1 = 1 - z by generalize (row k).1 = y; revert y z; decide) with hz | hz
    · exact (hle _ hz).trans (le_max_left _ _)
    · exact (hle _ hz).trans (le_max_right _ _)
  · exact bot_le

/-- With an entry in use, the maximum is real. -/
theorem top_real (h : ∃ k, used k) : ∃ μ : ℝ, top (entry used row x) = μ := by
  obtain ⟨k, hk⟩ := h
  have hlo := le_top (entry used row x) k
  rw [entry, if_pos hk] at hlo
  have hhi : top (entry used row x) ≠ ⊤ := by
    unfold top
    refine ne_of_lt (Finset.fold_max_lt _ |>.2 ⟨bot_lt_top, fun j _ => ?_⟩)
    unfold entry; split
    · exact EReal.coe_lt_top _
    · exact bot_lt_top
  exact ⟨_, (EReal.coe_toReal hhi fun hb => by rw [hb] at hlo; exact absurd hlo (by simp)).symm⟩

/-- The two devices together compute the plain softmax average over the table entries. -/
theorem split_eq_plain (h : ∃ k, used k) (z : Fin 2) : split used row x v z = plain used row x v := by
  obtain ⟨μ, hμ⟩ := top_real used row x h
  have hexp (k : K) : Ideal.exp (entry used row x k - (μ : EReal)) = ((if used k then Real.exp (x (row k) - μ) else 0 : ℝ) : EReal) := by
    unfold entry; split
    · rw [← EReal.coe_sub, exp_real]
    · rw [EReal.bot_sub]; rfl
  have htwo (f : Fin 2 → EReal) : f z + f (1 - z) = ∑ z, f z := by
    rw [Fin.sum_univ_two]
    rcases (show z = 0 ∨ z = 1 by revert z; decide) with rfl | rfl
    · rfl
    · exact add_comm _ _
  have hnum (g : Fin 2 × T → EReal) : (∑ z, ∑ t, (((count used row z t : ℝ) * Real.exp (x (z, t) - μ) : ℝ) : EReal) * g (z, t))
      = ∑ k ∈ Finset.univ.filter used, ((Real.exp (x (row k) - μ) : ℝ) : EReal) * g (row k) := by
    rw [← sum_rows used row fun p => ((Real.exp (x p - μ) : ℝ) : EReal) * g p]
    refine Finset.sum_congr rfl fun z _ => Finset.sum_congr rfl fun t _ => ?_
    rw [EReal.coe_mul, mul_assoc]
  have hle (z : Fin 2) := (peak_le used row x z).trans_eq hμ
  -- the total weight
  obtain ⟨ℓ, hℓ⟩ : ∃ ℓ : ℝ, ℓ = ∑ k ∈ Finset.univ.filter used, Real.exp (x (row k) - μ) := ⟨_, rfl⟩
  have hpos : 0 < ℓ := by
    obtain ⟨k, hk⟩ := h
    rw [hℓ]
    exact Finset.sum_pos (fun _ _ => Real.exp_pos _) ⟨k, Finset.mem_filter.2 ⟨Finset.mem_univ _, hk⟩⟩
  have hden : (∑ z, ((∑ t, (count used row z t : ℝ) * Real.exp (x (z, t) - μ) : ℝ) : EReal)) = (ℓ : EReal) := by
    have := hnum fun _ => 1
    simp only [mul_one] at this
    rw [hℓ, coe_sum, ← this]
    exact Finset.sum_congr rfl fun z _ => coe_sum _ _
  have hplain : (∑ j, Ideal.exp (entry used row x j - top (entry used row x))) = (ℓ : EReal) := by
    rw [hμ, Finset.sum_congr rfl fun k _ => hexp k, ← coe_sum, hℓ, Finset.sum_filter]
  unfold split plain
  dsimp only
  rw [hplain, peaks used row x z, hμ, sum_scaled _ _ (fun t => v (z, t)) μ (hle z), sum_scaled _ _ (fun t => v (1 - z, t)) μ (hle (1 - z)),
    mass_sum_scaled _ _ μ (hle z), mass_sum_scaled _ _ μ (hle (1 - z)),
    htwo (fun z => ∑ t, (((count used row z t : ℝ) * Real.exp (x (z, t) - μ) : ℝ) : EReal) * v (z, t)),
    htwo (fun z => ((∑ t, (count used row z t : ℝ) * Real.exp (x (z, t) - μ) : ℝ) : EReal)), hden, hnum]
  have hdiv (y : EReal) : Ideal.div y (ℓ : EReal) = ((ℓ⁻¹ : ℝ) : EReal) * y := by
    unfold Ideal.div
    rw [if_neg (by simpa using hpos.ne'), mul_comm, EReal.coe_inv]
  rw [hdiv, real_mul_sum _ _ (inv_nonneg.2 hpos.le), Finset.sum_filter]
  refine Finset.sum_congr rfl fun k _ => ?_
  rw [hexp, hdiv]
  split
  · rw [mul_assoc]
  · rw [EReal.coe_zero, mul_zero, zero_mul]

end TwoDevices

end Cert.SplitSoftmax

end
-- ==== Proof.KernelIdealValue.lean ====
/-
The kernel's arithmetic over the extended reals, read at one index.

Column `l = 8 h + b` of every matrix belongs to head `h` and batch element `b`; row `t = 16 p + r` of the key and value
matrices is row `r` of the device's page `p`.
-/
module

public import proofs.«01_k».proof.Proof.KernelIdealExchange
public import proofs.«01_k».proof.Proof.SplitSoftmax
public import Idealize.ShloMosaic.Lib.Pointwise
public import Idealize.ShloMosaic.Lib.Affine

@[expose] public section

noncomputable section

namespace Cert.KernelIdeal.Value

open Cert.KernelIdeal Cert.KernelIdeal.Gen
open Idealize.ShloMosaic
open Cert.SplitSoftmax

/-- Eight blocks of eight columns side by side: column `n` is column `n % 8` of block `n / 8`. -/
theorem eight_blocks {α : Type} (f : Fin 8 → Fin 8 → α) (n : ℕ) (hn : n < 64)
    (h7 : n - 8 - 8 - 8 - 8 - 8 - 8 - 8 < 8) :
    (if h : n < 8 then f 0 ⟨n, h⟩ else
      if h : n - 8 < 8 then f 1 ⟨n - 8, h⟩ else
      if h : n - 8 - 8 < 8 then f 2 ⟨n - 8 - 8, h⟩ else
      if h : n - 8 - 8 - 8 < 8 then f 3 ⟨n - 8 - 8 - 8, h⟩ else
      if h : n - 8 - 8 - 8 - 8 < 8 then f 4 ⟨n - 8 - 8 - 8 - 8, h⟩ else
      if h : n - 8 - 8 - 8 - 8 - 8 < 8 then f 5 ⟨n - 8 - 8 - 8 - 8 - 8, h⟩ else
      if h : n - 8 - 8 - 8 - 8 - 8 - 8 < 8 then f 6 ⟨n - 8 - 8 - 8 - 8 - 8 - 8, h⟩ else
      f 7 ⟨n - 8 - 8 - 8 - 8 - 8 - 8 - 8, h7⟩)
      = f ⟨n / 8, by omega⟩ ⟨n % 8, by omega⟩ := by
  have key : ∀ (a b a' b' : Fin 8), a.val = a'.val → b.val = b'.val → f a b = f a' b' := by
    intro a b a' b' h h'
    rw [Fin.ext h, Fin.ext h']
  split_ifs <;> apply key <;> simp only [Fin.val_zero, Fin.val_one, Fin.val_two, Fin.val_ofNat] <;> omega

/-- The same with both arguments counted from the start of all eight blocks. -/
theorem eight_diagonal {α : Type} (f : Fin 512 → Fin 64 → α) (l d : Fin 64) :
    (if h : l.val < 8 then f ⟨d.val, by omega⟩ l else
      (if h : l.val - 8 < 8 then f ⟨64 + d.val, by omega⟩ ⟨8 + (l.val - 8), by omega⟩ else
      (if h : l.val - 8 - 8 < 8 then f ⟨128 + d.val, by omega⟩ ⟨16 + (l.val - 8 - 8), by omega⟩ else
      (if h : l.val - 8 - 8 - 8 < 8 then f ⟨192 + d.val, by omega⟩ ⟨24 + (l.val - 8 - 8 - 8), by omega⟩ else
      (if h : l.val - 8 - 8 - 8 - 8 < 8 then f ⟨256 + d.val, by omega⟩ ⟨32 + (l.val - 8 - 8 - 8 - 8), by omega⟩ else
      (if h : l.val - 8 - 8 - 8 - 8 - 8 < 8 then f ⟨320 + d.val, by omega⟩ ⟨40 + (l.val - 8 - 8 - 8 - 8 - 8), by omega⟩ else
      (if h : l.val - 8 - 8 - 8 - 8 - 8 - 8 < 8 then f ⟨384 + d.val, by omega⟩ ⟨48 + (l.val - 8 - 8 - 8 - 8 - 8 - 8), by omega⟩ else
      f ⟨448 + d.val, by omega⟩ ⟨56 + (l.val - 8 - 8 - 8 - 8 - 8 - 8 - 8), by omega⟩)))))))
      = f ⟨64 * (l.val / 8) + d.val, by omega⟩ l := by
  have key : ∀ (a a' : Fin 512) (b b' : Fin 64), a.val = a'.val → b.val = b'.val → f a b = f a' b' := by
    intro a a' b b' h h'
    rw [Fin.ext h, Fin.ext h']
  have hl := l.isLt
  split_ifs <;> apply key <;> simp only <;> omega

/-- A coordinate of a rank-2 index. -/
theorem ix2_zero {a b : ℕ} (i : Fin a) (j : Fin b) : (ix2 i j) 0 = i := rfl
/-- The second coordinate of an index of two. -/
theorem ix2_one {a b : ℕ} (i : Fin a) (j : Fin b) : (ix2 i j) 1 = j := rfl

/-- The queries as a matrix: row `64 h' + d`, column `8 h + b` holds entry `d` of head `h'` of batch element `b`. -/
theorem queries_at (q : Vec Ideal S8x1x8x64 .bf16) (j : Fin 512) (l : Fin 64) :
    k0_pay8 (F := Ideal) q (ix2 j l)
      = q (ix4 (⟨l.val % 8, by omega⟩ : Fin 8) 0 (⟨j.val / 64, by omega⟩ : Fin 8) (⟨j.val % 64, by omega⟩ : Fin 64)) := by
  pointwise [k0_pay8]
  exact eight_blocks (fun _ b => q (ix4 b 0 (⟨j.val / 64, by omega⟩ : Fin 8) (⟨j.val % 64, by omega⟩ : Fin 64))) l.val l.isLt (by omega)

/-- The kernel's rounded-down division of a small non-negative word. -/
def quot (x k : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt k 0#32)) (Scalar.extui (Scalar.cmpi .slt k 0#32))))
      (IntOp.cmpi .ne (IntOp.remsi ArithUnit.vector x k) 0#32))
    (IntOp.subi (IntOp.divsi ArithUnit.vector x k) 1#32)
    (IntOp.divsi ArithUnit.vector x k)

/-- Rows by 64 are heads. -/
theorem quot_row : ∀ j : Fin 512, quot (BitVec.ofNat 32 j.val) 64#32 = BitVec.ofNat 32 (j.val / 64) := by
  decide +kernel

/-- Columns by 8 are heads. -/
theorem quot_col : ∀ l : Fin 64, quot (BitVec.ofNat 32 l.val) 8#32 = BitVec.ofNat 32 (l.val / 8) := by
  decide +kernel

/-- The words of two heads are equal when the heads are. -/
theorem same_head : ∀ a b : Fin 8, IntOp.cmpi .eq (BitVec.ofNat 32 a.val) (BitVec.ofNat 32 b.val) = if a = b then 1#1 else 0#1 := by
  decide +kernel

/-- The block-diagonal query matrix: zero where the row's head is not the column's. -/
theorem query_at (y : Vec Ideal S512x64 .bf16) (j : Fin 512) (l : Fin 64) :
    k0_pay12 (F := Ideal) y (iota .tc S512x64 32 [0] iota_S512x64_d0_w32) k0_pay9 k0_pay10 k0_pay11 (ix2 j l)
      = if j.val / 64 = l.val / 8 then y (ix2 j l) else 0 := by
  pointwise [k0_pay12, k0_pay9, k0_pay10, k0_pay11]
  change Scalar.select (IntOp.cmpi .eq (quot (BitVec.ofNat 32 j.val) 64#32) (quot (BitVec.ofNat 32 l.val) 8#32)) (y (ix2 j l)) 0 = _
  rw [quot_row, quot_col]
  have h := same_head ⟨j.val / 64, by omega⟩ ⟨l.val / 8, by omega⟩
  rw [show (IntOp.cmpi .eq (BitVec.ofNat 32 (j.val / 64)) (BitVec.ofNat 32 (l.val / 8))) = _ from h]
  by_cases e : j.val / 64 = l.val / 8
  · simp [Fin.ext_iff, e, Scalar.select]
  · simp [Fin.ext_iff, e, Scalar.select]

/-- The keys as a matrix. -/
theorem keys_at (x : Vec Ideal S64x16x8x64 .bf16) (t : Fin 1024) (j : Fin 512) :
    k0_pay13 (F := Ideal) x (ix2 t j)
      = x (ix4 (⟨t.val / 16, by omega⟩ : Fin 64) (⟨t.val % 16, by omega⟩ : Fin 16) (⟨j.val / 64, by omega⟩ : Fin 8) (⟨j.val % 64, by omega⟩ : Fin 64)) := by
  pointwise [k0_pay13]

/-- The values as a matrix. -/
theorem values_at (x : Vec Ideal S64x16x8x64 .bf16) (t : Fin 1024) (j : Fin 512) :
    k0_pay14 (F := Ideal) x (ix2 t j)
      = x (ix4 (⟨t.val / 16, by omega⟩ : Fin 64) (⟨t.val % 16, by omega⟩ : Fin 16) (⟨j.val / 64, by omega⟩ : Fin 8) (⟨j.val % 64, by omega⟩ : Fin 64)) := by
  pointwise [k0_pay14]

/-- The 512-term product with the block-diagonal matrix is the 64-term product of one head. -/
theorem head_sum (f : Fin 8 → Fin 64 → EReal) (g : Fin 512 → EReal) (h : Fin 8) :
    (∑ j : Fin 512, f ⟨j.val / 64, by omega⟩ ⟨j.val % 64, by omega⟩ * (if j.val / 64 = h.val then g j else 0))
      = ∑ d : Fin 64, f h d * g ⟨64 * h.val + d.val, by omega⟩ := by
  symm
  refine Finset.sum_of_injOn (fun d : Fin 64 => (⟨64 * h.val + d.val, by omega⟩ : Fin 512)) ?_ ?_ ?_ ?_
  · intro a _ b _ e
    have := congrArg Fin.val e
    exact Fin.ext (by simpa using this)
  · intro a _; exact Finset.mem_coe.2 (Finset.mem_univ _)
  · intro j _ hj
    have : ¬ j.val / 64 = h.val := by
      intro e
      refine hj ⟨⟨j.val % 64, by omega⟩, Finset.mem_coe.2 (Finset.mem_univ _), Fin.ext ?_⟩
      show 64 * h.val + j.val % 64 = j.val
      omega
    rw [if_neg this, mul_zero]
  · intro d _
    have e1 : (64 * h.val + d.val) / 64 = h.val := by omega
    have e2 : (64 * h.val + d.val) % 64 = d.val := by omega
    simp only [e1, e2, if_true]

section Scores

variable (q : Vec Ideal S8x1x8x64 .bf16) (k v : Vec Ideal S64x16x8x64 .bf16) (w : FVec Ideal S1024x64 .f32)

/-- The query matrix. -/
abbrev qMat : FVec Ideal S512x64 .bf16 :=
  k0_pay12 (F := Ideal) (k0_pay8 q) (iota .tc S512x64 32 [0] iota_S512x64_d0_w32) k0_pay9 k0_pay10 k0_pay11

/-- The zero accumulator. -/
abbrev zAcc : FVec Ideal S1024x64 .f32 := constant S1024x64 .f32 0x00000000#32

/-- The scaled product of a key row with the query of column `l`. -/
def prod (t : Fin 1024) (l : Fin 64) : EReal :=
  (∑ d : Fin 64, k (ix4 (⟨t.val / 16, by omega⟩ : Fin 64) (⟨t.val % 16, by omega⟩ : Fin 16) (⟨l.val / 8, by omega⟩ : Fin 8) d)
      * q (ix4 (⟨l.val % 8, by omega⟩ : Fin 8) 0 (⟨l.val / 8, by omega⟩ : Fin 8) d)) * Ideal.ofBits .f32 0x3E000000#32

/-- The named fill of masked scores is minus infinity. -/
theorem mask_value : (Named.named (F := Ideal) κ "mask" (φ := .f32) 0xF149F2CA#32 : EReal) = ⊥ := rfl

/-- The score of a row that no entry names is minus infinity. -/
theorem masked_at (t : Fin 1024) (l : Fin 64) :
    k0_pay15 w (qMat q) (k0_pay13 k) zAcc (ix2 t l) = if 0 < w (ix2 t l) then prod q k t l else ⊥ := by
  pointwise [k0_pay15]
  rw [mask_value]
  refine congrArg (fun a => if 0 < w (ix2 t l) then a else ⊥) ?_
  unfold prod
  refine congrArg (· * _) ?_
  have e : ∀ j : Fin 512, k0_pay13 k (ix2 t j) * qMat q (ix2 j l) = _ := fun j => by
    unfold qMat
    rw [keys_at, query_at, queries_at]
  refine (Finset.sum_congr rfl fun j _ => e j).trans ?_
  refine (head_sum (fun h d => k (ix4 (⟨t.val / 16, by omega⟩ : Fin 64) (⟨t.val % 16, by omega⟩ : Fin 16) h d)) (fun j => q (ix4 (⟨l.val % 8, by omega⟩ : Fin 8) 0 (⟨j.val / 64, by omega⟩ : Fin 8) (⟨j.val % 64, by omega⟩ : Fin 64)))
    ⟨l.val / 8, by omega⟩).trans ?_
  refine Finset.sum_congr rfl fun d _ => ?_
  have e1 : (64 * (l.val / 8) + d.val) / 64 = l.val / 8 := by omega
  have e2 : (64 * (l.val / 8) + d.val) % 64 = d.val := by omega
  simp only [e1, e2]

variable (n : Fin 1024 → ℕ) (x : Fin 1024 → ℝ) (l : Fin 64)
  (hw : ∀ t, w (ix2 t l) = ((n t : ℝ) : EReal)) (hx : ∀ t, prod q k t l = x t)

include hw hx in
/-- The kernel's score at row `t`. -/
theorem score_at (t : Fin 1024) : k0_pay15 w (qMat q) (k0_pay13 k) zAcc (ix2 t l) = score n x t := by
  rw [masked_at, hw, hx, score]
  have : ((0 : EReal) < ((n t : ℝ) : EReal)) ↔ 0 < n t := by
    rw [← EReal.coe_zero, EReal.coe_lt_coe_iff, Nat.cast_pos]
  simp only [this]

include hw hx in
/-- The kernel's maximum. -/
theorem max_at : k0_pay16 w (qMat q) (k0_pay13 k) zAcc (ix2 0 l) = peak n x := by
  have e : k0_pay16 w (qMat q) (k0_pay13 k) zAcc (ix2 0 l)
      = Finset.univ.fold max (Ideal.ofBits .f32 0xFF800000#32) (fun t : Fin 1024 => k0_pay15 w (qMat q) (k0_pay13 k) zAcc (ix2 t l)) := by
    pointwise [k0_pay16]
  rw [e, negInf]
  exact congrArg (fun f => Finset.univ.fold max ⊥ f) (funext (score_at q k w n x l hw hx))

include hw hx in
/-- The kernel's weight at row `t`. -/
theorem mass_at (t : Fin 1024) : k0_pay17 w (qMat q) (k0_pay13 k) zAcc (ix2 t l) = mass n x t := by
  have e : k0_pay17 w (qMat q) (k0_pay13 k) zAcc (ix2 t l)
      = Ideal.exp (k0_pay15 w (qMat q) (k0_pay13 k) zAcc (ix2 t l) - k0_pay16 w (qMat q) (k0_pay13 k) zAcc (ix2 0 l)) * w (ix2 t l) := by
    pointwise [k0_pay17]
  rw [e, score_at q k w n x l hw hx, max_at q k w n x l hw hx, hw, mass]

include hw hx in
/-- The kernel's sum of weights. -/
theorem total_at : k0_pay18 w (qMat q) (k0_pay13 k) zAcc (ix2 0 l) = ∑ t, mass n x t := by
  have e : k0_pay18 w (qMat q) (k0_pay13 k) zAcc (ix2 0 l)
      = ∑ t : Fin 1024, k0_pay17 w (qMat q) (k0_pay13 k) zAcc (ix2 t l) := by
    pointwise [k0_pay18]
  rw [e]
  exact Finset.sum_congr rfl fun t _ => mass_at q k w n x l hw hx t

/-- The value a device holds for row `t`, column `l`, entry `d`. -/
def val (t : Fin 1024) (l d : Fin 64) : EReal :=
  v (ix4 (⟨t.val / 16, by omega⟩ : Fin 64) (⟨t.val % 16, by omega⟩ : Fin 16) (⟨l.val / 8, by omega⟩ : Fin 8) d)

/-- The kernel's weighted values, as the sum over the eight diagonal blocks. -/
theorem weighted_blocks (d : Fin 64) :
    k0_pay19 w (qMat q) (k0_pay13 k) (k0_pay14 v) zAcc (ix2 d l)
      = ∑ t : Fin 1024, k0_pay14 v (ix2 t (⟨64 * (l.val / 8) + d.val, by omega⟩ : Fin 512))
          * k0_pay17 w (qMat q) (k0_pay13 k) zAcc (ix2 t l) := by
  pointwise [k0_pay19]
  generalize k0_pay17 w (qMat q) (k0_pay13 k) zAcc = p
  generalize k0_pay14 (F := Ideal) v = r
  exact eight_diagonal (fun a b => ∑ t : Fin 1024, r (ix2 t a) * p (ix2 t b)) l d

include hw hx in
/-- The kernel's weighted values. -/
theorem weighted_at (d : Fin 64) :
    k0_pay19 w (qMat q) (k0_pay13 k) (k0_pay14 v) zAcc (ix2 d l) = ∑ t, val v t l d * mass n x t := by
  rw [weighted_blocks]
  refine Finset.sum_congr rfl fun t _ => ?_
  have e1 : (64 * (l.val / 8) + d.val) / 64 = l.val / 8 := by omega
  have e2 : (64 * (l.val / 8) + d.val) % 64 = d.val := by omega
  rw [mass_at q k w n x l hw hx, values_at]
  simp only [e1, e2, val]

/-- The block a device sends: the weighted values, then the maxima, then the sums. -/
theorem sent_val (d : Fin 64) :
    k0_pay20 w (qMat q) (k0_pay13 k) (k0_pay14 v) zAcc (ix2 (⟨d.val, by omega⟩ : Fin 72) l)
      = k0_pay19 w (qMat q) (k0_pay13 k) (k0_pay14 v) zAcc (ix2 d l) := by
  have hd := d.isLt
  pointwise [k0_pay20]

/-- Row 64 of the block that is sent is the maximum. -/
theorem sent_max :
    k0_pay20 w (qMat q) (k0_pay13 k) (k0_pay14 v) zAcc (ix2 (64 : Fin 72) l)
      = k0_pay16 w (qMat q) (k0_pay13 k) zAcc (ix2 0 l) := by
  pointwise [k0_pay20]

/-- Row 65 of the block that is sent is the sum of weights. -/
theorem sent_total :
    k0_pay20 w (qMat q) (k0_pay13 k) (k0_pay14 v) zAcc (ix2 (65 : Fin 72) l)
      = k0_pay18 w (qMat q) (k0_pay13 k) zAcc (ix2 0 l) := by
  pointwise [k0_pay20]

end Scores

/-- The combination of a device's own results with what it received. -/
theorem combine_at (w s : FVec Ideal S1x64 .f32) (o : FVec Ideal S64x64 .f32) (r : Vec Ideal S72x64 .f32) (l d : Fin 64) :
    k0_pay21 (F := Ideal) w s o r (ix2 l d)
      = Ideal.div (o (ix2 d l) * Ideal.exp (w (ix2 0 l) - max (w (ix2 0 l)) (r (ix2 (64 : Fin 72) l)))
          + r (ix2 (⟨d.val, by omega⟩ : Fin 72) l) * Ideal.exp (r (ix2 (64 : Fin 72) l) - max (w (ix2 0 l)) (r (ix2 (64 : Fin 72) l))))
        (s (ix2 0 l) * Ideal.exp (w (ix2 0 l) - max (w (ix2 0 l)) (r (ix2 (64 : Fin 72) l)))
          + r (ix2 (65 : Fin 72) l) * Ideal.exp (r (ix2 (64 : Fin 72) l) - max (w (ix2 0 l)) (r (ix2 (64 : Fin 72) l)))) := by
  pointwise [k0_pay21]

end Cert.KernelIdeal.Value

end
-- ==== Proof.Attention.lean ====
/-
Attention over a paged cache, as mathematics: which table entries are in use, which key row each one names, and the
scores and values found there.

The 128 pages of 16 rows are numbered through; page `p` belongs to half `p / 64`, and within a half the rows are
numbered `16 (p % 64) + r`. Table entry `k` of a batch element is row `k % 16` of the page in slot `k / 16`.
-/
module

public import proofs.«01_k».proof.Proof.SplitSoftmax
public import Idealize.ShloMosaic.Lib.Pointwise
public import Idealize.ShloMosaic.Lib.Affine

@[expose] public section

noncomputable section

namespace Cert.Attention

open Idealize.ShloMosaic
open Cert.SplitSoftmax

/-- The page a table word names: its signed value, clipped to the pages there are. -/
def page (w : BitVec 32) : Fin 128 := ⟨min w.toInt.toNat 127, by omega⟩

/-- Entry `k` is in use when its slot is below the sequence's length. -/
def used (len : BitVec 32) (k : Fin 1024) : Prop := ((k.val / 16 : ℕ) : ℤ) < len.toInt

instance (len : BitVec 32) : DecidablePred (used len) := fun k => inferInstanceAs (Decidable (((k.val / 16 : ℕ) : ℤ) < len.toInt))

/-- The slot of entry `k`. -/
def slot (k : Fin 1024) : Fin 64 := ⟨k.val / 16, by omega⟩

/-- The half and the row in it that entry `k` names. -/
def row (tab : Fin 64 → BitVec 32) (k : Fin 1024) : Fin 2 × Fin 1024 :=
  (⟨(page (tab (slot k))).val / 64, by omega⟩, ⟨16 * ((page (tab (slot k))).val % 64) + k.val % 16, by omega⟩)

/-- The page and the row in it of row `t` of half `z`. -/
def pageOf (p : Fin 2 × Fin 1024) : Fin 128 := ⟨64 * p.1.val + p.2.val / 16, by omega⟩
/-- The row inside its page of a row of the pool, given by half and place in the half. -/
def rowOf (p : Fin 2 × Fin 1024) : Fin 16 := ⟨p.2.val % 16, by omega⟩

/-- The row of entry `k` lies in the page that its slot names. -/
theorem pageOf_row (tab : Fin 64 → BitVec 32) (k : Fin 1024) : pageOf (row tab k) = page (tab (slot k)) := by
  apply Fin.ext
  simp only [pageOf, row]
  omega

/-- The row of entry `k` is row `k mod 16` of its page. -/
theorem rowOf_row (tab : Fin 64 → BitVec 32) (k : Fin 1024) : rowOf (row tab k) = ⟨k.val % 16, by omega⟩ := by
  apply Fin.ext
  simp only [rowOf, row]
  omega

/-- Row `t` of half `z` is named as often as its page stands in a slot in use. -/
theorem count_slots (len : BitVec 32) (tab : Fin 64 → BitVec 32) (z : Fin 2) (t : Fin 1024) :
    SplitSoftmax.count (used len) (row tab) z t
      = (Finset.univ.filter fun s : Fin 64 => ((s.val : ℕ) : ℤ) < len.toInt ∧ (page (tab s)).val = 64 * z.val + t.val / 16).card := by
  unfold SplitSoftmax.count
  refine Finset.card_nbij' slot (fun s => (⟨16 * s.val + t.val % 16, by omega⟩ : Fin 1024)) ?_ ?_ ?_ ?_
  · intro k hk
    obtain ⟨h1, h2⟩ := (Finset.mem_filter.1 (Finset.mem_coe.1 hk)).2
    refine Finset.mem_coe.2 (Finset.mem_filter.2 ⟨Finset.mem_univ _, h1, ?_⟩)
    rw [← pageOf_row, h2]; rfl
  · intro s hs
    obtain ⟨h1, h2⟩ := (Finset.mem_filter.1 (Finset.mem_coe.1 hs)).2
    have e : slot (⟨16 * s.val + t.val % 16, by omega⟩ : Fin 1024) = s := Fin.ext (by simp only [slot]; omega)
    refine Finset.mem_coe.2 (Finset.mem_filter.2 ⟨Finset.mem_univ _, ?_, ?_⟩)
    · unfold used
      rw [show (16 * s.val + t.val % 16) / 16 = s.val by omega]
      exact h1
    · refine Prod.ext (Fin.ext ?_) (Fin.ext ?_) <;> simp only [row, e, h2] <;> omega
  · intro k hk
    obtain ⟨h1, h2⟩ := (Finset.mem_filter.1 (Finset.mem_coe.1 hk)).2
    have := congrArg (fun p => p.2.val) h2
    simp only [row] at this
    apply Fin.ext
    simp only [slot]
    omega
  · intro s _
    exact Fin.ext (by simp only [slot]; omega)

variable (Q : Vec Ideal ⟨4, ![8, 1, 8, 64]⟩ .bf16) (K V : Vec Ideal ⟨4, ![128, 16, 8, 64]⟩ .bf16) (b h : Fin 8) (d : Fin 64)

/-- The scaled product of a key row with the query of batch element `b`, head `h`. -/
def keyScore (p : Fin 2 × Fin 1024) : EReal :=
  (∑ d : Fin 64, K (ix4 (pageOf p) (rowOf p) h d) * Q (ix4 b 0 h d)) * Ideal.ofBits .f32 0x3E000000#32

/-- The value row's entry `d`. -/
def value (p : Fin 2 × Fin 1024) : EReal := V (ix4 (pageOf p) (rowOf p) h d)

/-- The word of the score scale is the real number 1/8. -/
theorem eighth : Ideal.ofBits .f32 0x3E000000#32 = ((1 / 8 : ℝ) : EReal) := by
  simp [Ideal.ofBits, Ideal.ieee, -EReal.coe_mul]; norm_num

/-- With real queries and keys every score is real. -/
theorem keyScore_real (hQ : ∀ i, ∃ r : ℝ, Q i = (r : EReal)) (hK : ∀ i, ∃ r : ℝ, K i = (r : EReal)) (p : Fin 2 × Fin 1024) :
    keyScore Q K b h p = ((keyScore Q K b h p).toReal : EReal) := by
  choose q hq using hQ
  choose k hk using hK
  have e : keyScore Q K b h p
      = (((∑ d : Fin 64, k (ix4 (pageOf p) (rowOf p) h d) * q (ix4 b 0 h d)) * (1 / 8) : ℝ) : EReal) := by
    unfold keyScore
    rw [eighth, EReal.coe_mul, coe_sum]
    refine congrArg (· * _) (Finset.sum_congr rfl fun d _ => ?_)
    rw [hq, hk, EReal.coe_mul]
  rw [e, EReal.toReal_coe]

/-- Paged attention: the plain softmax average over the entries of batch element `b`'s table. -/
def attention (bt : Vec Ideal ⟨2, ![8, 64]⟩ .i32) (lens : Vec Ideal ⟨1, ![8]⟩ .i32) : EReal :=
  plain (used (lens (ix1 b))) (row fun s => bt (ix2 b s)) (fun p => (keyScore Q K b h p).toReal) (value V h d)

end Cert.Attention

end
-- ==== Proof.KernelIdealResult.lean ====
/-
The kernel's result over the extended reals is paged attention.
-/
module

public import proofs.«01_k».proof.Proof.KernelIdealValue
public import proofs.«01_k».proof.Proof.Attention

@[expose] public section

noncomputable section

namespace Cert.KernelIdeal.Value

open Cert.KernelIdeal Cert.KernelIdeal.Gen
open Idealize.ShloMosaic
open Cert.SplitSoftmax Cert.Attention

/-- The column of lengths holds length `i` in row `i`. -/
theorem lengths_at (f : Fin 8 → BitVec 32) (i : Fin 8) :
    k0_pay6 (F := Ideal) (f ⟨0, by decide⟩) (f ⟨1, by decide⟩) (f ⟨2, by decide⟩) (f ⟨3, by decide⟩) (f ⟨4, by decide⟩) (f ⟨5, by decide⟩)
      (f ⟨6, by decide⟩) (f ⟨7, by decide⟩) (ix2 i (0 : Fin 1)) = f i := by
  pointwise [k0_pay6]
  fin_cases i <;> rfl

/-- Adding up 0/1 words counts the ones. -/
theorem fold_count {ι : Type} [DecidableEq ι] (p : ι → Prop) [DecidablePred p] (s : Finset ι) :
    s.fold IntOp.addi (0#32) (fun i => BitVec.setWidth 32 (if p i then 1#1 else 0#1)) = BitVec.ofNat 32 (s.filter p).card := by
  induction s using Finset.induction_on with
  | empty => rfl
  | insert a s ha ih =>
    rw [Finset.fold_insert ha, ih, Finset.filter_insert]
    by_cases h : p a
    · rw [if_pos h, if_pos h, Finset.card_insert_of_notMem (fun hm => ha (Finset.mem_filter.1 hm).1)]
      show BitVec.setWidth 32 (1#1) + BitVec.ofNat 32 _ = _
      rw [BitVec.ofNat_add, BitVec.add_comm]
      rfl
    · rw [if_neg h, if_neg h]
      show BitVec.setWidth 32 (0#1) + BitVec.ofNat 32 _ = _
      rw [show BitVec.setWidth 32 (0#1) = 0#32 from rfl, BitVec.zero_add]

/-- The test the kernel makes for one slot: is the slot in use, and does it name this page of this half. -/
theorem slot_bit (z : Fin 2) (p : ℕ) (hp : p < 64) (s : Fin 64) (len w : BitVec 32)
    (hw : (s.val : ℤ) < len.toInt → 0 ≤ w.toInt ∧ w.toInt < 128) :
    IntOp.cmpi .eq (IntOp.addi (Scalar.muli (BitVec.ofNat 32 z.val) 64#32) (BitVec.ofNat 32 p))
        (Scalar.select (IntOp.cmpi .slt (BitVec.ofNat 32 s.val) len) w 4294967295#32)
      = if (s.val : ℤ) < len.toInt ∧ (page w).val = 64 * z.val + p then 1#1 else 0#1 := by
  have hz : IntOp.addi (Scalar.muli (BitVec.ofNat 32 z.val) 64#32) (BitVec.ofNat 32 p) = BitVec.ofNat 32 (64 * z.val + p) := by
    show BitVec.ofNat 32 z.val * BitVec.ofNat 32 64 + BitVec.ofNat 32 p = _
    rw [← BitVec.ofNat_mul, ← BitVec.ofNat_add, Nat.mul_comm]
  have hs : (BitVec.ofNat 32 s.val).toInt = (s.val : ℤ) := by
    rw [BitVec.toInt_ofNat', Int.bmod_def]; have := s.isLt; norm_num; omega
  have hn : (BitVec.ofNat 32 (64 * z.val + p)).toInt = ((64 * z.val + p : ℕ) : ℤ) := by
    rw [BitVec.toInt_ofNat', Int.bmod_def]; have := z.isLt; norm_num; omega
  have bit : ∀ (c : BitVec 1) (P : Prop) [Decidable P], (c = 1#1 ↔ P) → c = if P then 1#1 else 0#1 := by
    intro c P _ h
    by_cases hP : P
    · rw [if_pos hP, h.2 hP]
    · rw [if_neg hP]
      rcases BitVec.eq_zero_or_eq_one c with h0 | h0
      · exact h0
      · exact absurd (h.1 h0) hP
  apply bit
  rw [IntOp.cmpi_eq, hz, ← BitVec.toInt_inj, hn]
  unfold Scalar.select
  have hc : IntOp.cmpi .slt (BitVec.ofNat 32 s.val) len = 1 ↔ (s.val : ℤ) < len.toInt := by
    rw [show (1 : BitVec 1) = 1#1 from rfl, IntOp.cmpi_slt, hs]
  simp only [hc]
  by_cases hl : (s.val : ℤ) < len.toInt
  · obtain ⟨h0, h1⟩ := hw hl
    rw [if_pos hl]
    simp only [hl, true_and, page]
    omega
  · rw [if_neg hl]
    have : (4294967295#32).toInt = -1 := by decide
    rw [this]
    constructor
    · intro h; omega
    · intro h; exact absurd h.1 hl

/-- The kernel's weights: how often a row of the device's half is named. -/
theorem weights_at (z : Fin 2) (lc : IVec S8x1 32) (bt : Vec Ideal S8x64 .i32) (t : Fin 1024) (l : Fin 64)
    (len : BitVec 32) (tab : Fin 64 → BitVec 32) (hlen : lc (ix2 (⟨l.val % 8, by omega⟩ : Fin 8) (0 : Fin 1)) = len)
    (htab : ∀ s, bt (ix2 (⟨l.val % 8, by omega⟩ : Fin 8) s) = tab s)
    (hp : ∀ s : Fin 64, (s.val : ℤ) < len.toInt → 0 ≤ (tab s).toInt ∧ (tab s).toInt < 128) :
    k0_pay7 (F := Ideal) (BitVec.ofNat 32 z.val) lc bt (ix2 t l)
      = ((SplitSoftmax.count (used len) (row tab) z t : ℝ) : EReal) := by
  pointwise [k0_pay7]
  refine Eq.trans (congrArg (FloatOps.sitofp (F := Ideal) .f32) (eight_blocks (fun _ b => Finset.fold IntOp.addi (0#32)
          (fun s : Fin 64 =>
            BitVec.setWidth 32
              (IntOp.cmpi CmpIPredicate.eq
                (IntOp.addi (Scalar.muli (BitVec.ofNat 32 z.val) 64#32) (BitVec.ofNat 32 (t.val / 16)))
                (Scalar.select
                  (IntOp.cmpi CmpIPredicate.slt (BitVec.ofNat 32 s.val) (lc (ix2 b 0)))
                  (bt (ix2 b s)) 4294967295#32)))
          Finset.univ) l.val l.isLt (by omega))) ?_
  have e : ∀ s : Fin 64, _ := fun s => slot_bit z (t.val / 16) (by omega) s len (tab s) (hp s)
  simp only [hlen, htab, e]
  rw [fold_count, ← count_slots]
  have hle : SplitSoftmax.count (used len) (row tab) z t ≤ 64 := by
    rw [count_slots]
    exact (Finset.card_filter_le _ _).trans (by simp)
  have hi : (BitVec.ofNat 32 (SplitSoftmax.count (used len) (row tab) z t)).toInt = ((SplitSoftmax.count (used len) (row tab) z t : ℕ) : ℤ) := by
    rw [BitVec.toInt_ofNat', Int.bmod_def]
    norm_num
    omega
  show (((BitVec.ofNat 32 (SplitSoftmax.count (used len) (row tab) z t)).toInt : ℝ) : EReal) = _
  rw [hi, Int.cast_natCast]

section Devices

open Exchange
open Idealize.ShloMosaic.TcCoe

variable (m : (ℓ : Loc nD τ sig) → Buf (Elt Ideal) ℓ)

/-- A device's half of the pages: its `z` coordinate. -/
def half (c : Dev nD) : Fin 2 := ⟨c.val % 2, by omega⟩

/-- The device's place along z, as a word, is its half. -/
theorem half_word : ∀ c : Dev nD, zWord c = BitVec.ofNat 32 (half c).val := by decide +kernel

/-- The device across z has the other half. -/
theorem half_mate : ∀ c : Dev nD, half (mate c) = 1 - half c := by decide +kernel

/-- Each input's staged block is the whole argument. -/
theorem inQ_eq (c : Dev nD) : inQ m c = m ((c : Thread nD τ).loc main_arg0) := by
  have hz : (fun a => (win0_0.index (0 : Fin 1)) a * main_arg0.ty.shape.size a) = fun _ => 0 :=
    funext fun a => by fin_cases a <;> decide
  unfold inQ iblk
  exact Memref.read_access_unit_zero (Elt Ideal) main_arg0 hz (fun a => by fin_cases a <;> decide) (m ((c : Thread nD τ).loc main_arg0))
/-- The keys that the kernel reads are its second argument. -/
theorem inK_eq (c : Dev nD) : inK m c = m ((c : Thread nD τ).loc main_arg1) := by
  have hz : (fun a => (win0_1.index (0 : Fin 1)) a * main_arg1.ty.shape.size a) = fun _ => 0 :=
    funext fun a => by fin_cases a <;> decide
  unfold inK iblk
  exact Memref.read_access_unit_zero (Elt Ideal) main_arg1 hz (fun a => by fin_cases a <;> decide) (m ((c : Thread nD τ).loc main_arg1))
/-- The values that the kernel reads are its third argument. -/
theorem inV_eq (c : Dev nD) : inV m c = m ((c : Thread nD τ).loc main_arg2) := by
  have hz : (fun a => (win0_2.index (0 : Fin 1)) a * main_arg2.ty.shape.size a) = fun _ => 0 :=
    funext fun a => by fin_cases a <;> decide
  unfold inV iblk
  exact Memref.read_access_unit_zero (Elt Ideal) main_arg2 hz (fun a => by fin_cases a <;> decide) (m ((c : Thread nD τ).loc main_arg2))
/-- The table that the kernel reads is its fourth argument. -/
theorem inBt_eq (c : Dev nD) : inBt m c = m ((c : Thread nD τ).loc main_arg3) := by
  have hz : (fun a => (win0_3.index (0 : Fin 1)) a * main_arg3.ty.shape.size a) = fun _ => 0 :=
    funext fun a => by fin_cases a <;> decide
  unfold inBt iblk
  exact Memref.read_access_unit_zero (Elt Ideal) main_arg3 hz (fun a => by fin_cases a <;> decide) (m ((c : Thread nD τ).loc main_arg3))
/-- The lengths that the kernel reads are its fifth argument. -/
theorem inLen_eq (c : Dev nD) : inLen m c = m ((c : Thread nD τ).loc main_arg4) := by
  have hz : (fun a => (win0_4.index (0 : Fin 1)) a * main_arg4.ty.shape.size a) = fun _ => 0 :=
    funext fun a => by fin_cases a <;> decide
  unfold inLen iblk
  exact Memref.read_access_unit_zero (Elt Ideal) main_arg4 hz (fun a => by fin_cases a <;> decide) (m ((c : Thread nD τ).loc main_arg4))

/-- A device's half of an array of pages, at an index. -/
theorem half_at (x : Vec Ideal ⟨4, ![128, 16, 8, 64]⟩ .bf16) (c : Dev nD) (t : Fin 1024) (h : Fin 8) (d : Fin 64) :
    (Layout.blockN ⟨4, ![64, 16, 8, 64]⟩ ⟨4, ![128, 16, 8, 64]⟩ (Layout.meshBlock [2, 2, 2] ![[2], [], [], []] c) x)
        (ix4 (⟨t.val / 16, by omega⟩ : Fin 64) (⟨t.val % 16, by omega⟩ : Fin 16) h d)
      = x (ix4 (pageOf (half c, t)) (rowOf (half c, t)) h d) := by
  have hz : ∀ c : Dev nD, ((Layout.meshBlock [2, 2, 2] ![[2], [], [], []] c) 0).val = c.val % 2 := by decide +kernel
  rw [Layout.blockN_apply]
  refine congrArg x (funext fun a => Fin.ext ?_)
  rw [Layout.TilesN.idx_val]
  match a with
  | ⟨0, _⟩ =>
    show ((Layout.meshBlock [2, 2, 2] ![[2], [], [], []] c) 0).val * 64 + t.val / 16 = 64 * (c.val % 2) + t.val / 16
    rw [hz, Nat.mul_comm]
  | ⟨1, _⟩ => exact Nat.zero_add _
  | ⟨2, _⟩ => exact Nat.zero_add _
  | ⟨3, _⟩ => exact Nat.zero_add _

/-- What the devices hold of the whole arrays. -/
structure Holds (Q : Vec Ideal S8x1x8x64 .bf16) (K V : Vec Ideal ⟨4, ![128, 16, 8, 64]⟩ .bf16) (bt : Vec Ideal S8x64 .i32) (lens : Vec Ideal S8 .i32)
    (c : Dev nD) : Prop where
  q : inQ m c = Q
  k : inK m c = Layout.blockN ⟨4, ![64, 16, 8, 64]⟩ ⟨4, ![128, 16, 8, 64]⟩ (Layout.meshBlock [2, 2, 2] ![[2], [], [], []] c) K
  v : inV m c = Layout.blockN ⟨4, ![64, 16, 8, 64]⟩ ⟨4, ![128, 16, 8, 64]⟩ (Layout.meshBlock [2, 2, 2] ![[2], [], [], []] c) V
  bt : inBt m c = bt
  lens : inLen m c = lens

variable {m}
variable {Q : Vec Ideal S8x1x8x64 .bf16} {K V : Vec Ideal ⟨4, ![128, 16, 8, 64]⟩ .bf16} {bt : Vec Ideal S8x64 .i32} {lens : Vec Ideal S8 .i32}
  (hQ : ∀ i, ∃ r : ℝ, Q i = (r : EReal)) (hK : ∀ i, ∃ r : ℝ, K i = (r : EReal))
  (hB : ∀ (b : Fin 8) (s : Fin 64), (s.val : ℤ) < (lens (ix1 b)).toInt → 0 ≤ (bt (ix2 b s)).toInt ∧ (bt (ix2 b s)).toInt < 128)
  (hL : ∀ b : Fin 8, 1 ≤ (lens (ix1 b)).toInt)
  {c : Dev nD} (H : Holds m Q K V bt lens c) (b h : Fin 8) (l : Fin 64) (hl : l.val = 8 * h.val + b.val)

include H hB hl in
/-- A row's weight is the number of entries of the sequence that name it. -/
theorem device_weights (t : Fin 1024) :
    weights m c (ix2 t l) = ((SplitSoftmax.count (used (lens (ix1 b))) (row fun s => bt (ix2 b s)) (half c) t : ℝ) : EReal) := by
  have eb : (⟨l.val % 8, by omega⟩ : Fin 8) = b := Fin.ext (by show l.val % 8 = b.val; omega)
  unfold weights
  rw [half_word]
  refine weights_at (half c) _ _ t l _ _ ?_ ?_ (hB b)
  · rw [eb]
    exact (lengths_at (lenAt m c) b).trans (congrFun H.lens (ix1 b))
  · intro s
    rw [eb, H.bt]

include H hQ hK hl in
/-- A row's score is the key's score. -/
theorem device_score (t : Fin 1024) :
    prod (inQ m c) (inK m c) t l = ((keyScore Q K b h (half c, t)).toReal : EReal) := by
  have eb : (⟨l.val % 8, by omega⟩ : Fin 8) = b := Fin.ext (by show l.val % 8 = b.val; omega)
  have eh : (⟨l.val / 8, by omega⟩ : Fin 8) = h := Fin.ext (by show l.val / 8 = h.val; omega)
  rw [← keyScore_real Q K b h hQ hK]
  unfold prod keyScore
  rw [eb, eh, H.q, H.k]
  refine congrArg (· * _) (Finset.sum_congr rfl fun d _ => ?_)
  rw [half_at]

include H hl in
/-- A row's value is the pool's value. -/
theorem device_value (t : Fin 1024) (d : Fin 64) : val (inV m c) t l d = value V h d (half c, t) := by
  have eh : (⟨l.val / 8, by omega⟩ : Fin 8) = h := Fin.ext (by show l.val / 8 = h.val; omega)
  unfold val value
  rw [eh, H.v, half_at]

include H hB hQ hK hL hl in
/-- The maximum, the total and the weighted values of a device, and its copies of them in what it sends. -/
theorem device_parts (d : Fin 64) :
    ownMax m c (ix2 0 l) = peak (SplitSoftmax.count (used (lens (ix1 b))) (row fun s => bt (ix2 b s)) (half c)) (fun t => (keyScore Q K b h (half c, t)).toReal)
    ∧ ownSum m c (ix2 0 l) = ∑ t, mass (SplitSoftmax.count (used (lens (ix1 b))) (row fun s => bt (ix2 b s)) (half c)) (fun t => (keyScore Q K b h (half c, t)).toReal) t
    ∧ ownVal m c (ix2 d l) = ∑ t, value V h d (half c, t) * mass (SplitSoftmax.count (used (lens (ix1 b))) (row fun s => bt (ix2 b s)) (half c)) (fun t => (keyScore Q K b h (half c, t)).toReal) t
    ∧ sent m c (ix2 (64 : Fin 72) l) = ownMax m c (ix2 0 l)
    ∧ sent m c (ix2 (65 : Fin 72) l) = ownSum m c (ix2 0 l)
    ∧ sent m c (ix2 (⟨d.val, by omega⟩ : Fin 72) l) = ownVal m c (ix2 d l) := by
  have hw := device_weights hB H b h l hl
  have hx := device_score hQ hK H b h l hl
  refine ⟨max_at (inQ m c) (inK m c) (weights m c) _ _ l hw hx, total_at (inQ m c) (inK m c) (weights m c) _ _ l hw hx, ?_,
    sent_max (inQ m c) (inK m c) (inV m c) (weights m c) l, sent_total (inQ m c) (inK m c) (inV m c) (weights m c) l,
    sent_val (inQ m c) (inK m c) (inV m c) (weights m c) l d⟩
  refine (weighted_at (inQ m c) (inK m c) (inV m c) (weights m c) _ _ l hw hx d).trans ?_
  refine Finset.sum_congr rfl fun t _ => ?_
  rw [device_value H b h l hl]

include H hB hQ hK hL hl in
/-- The combined result is paged attention. -/
theorem combined_at (H' : Holds m Q K V bt lens (mate c)) (d : Fin 64) : combined m c (ix2 l d) = attention Q K V b h d bt lens := by
  obtain ⟨p1, p2, p3, -, -, -⟩ := device_parts hQ hK hB hL H b h l hl d
  obtain ⟨r1, r2, r3, r4, r5, r6⟩ := device_parts hQ hK hB hL H' b h l hl d
  unfold combined
  rw [combine_at, r4, r5, r6, p1, p2, p3, r1, r2, r3, half_mate]
  unfold attention
  rw [← split_eq_plain (used (lens (ix1 b))) (row fun s => bt (ix2 b s)) (fun p => (keyScore Q K b h p).toReal) (value V h d)
    ⟨0, show ((0 : ℕ) : ℤ) < _ from lt_of_lt_of_le (by decide) (hL b)⟩ (half c)]
  rfl

end Devices

end Cert.KernelIdeal.Value

end
-- ==== Proof.ReferenceIdealValue.lean ====
/-
The reference's result over the extended reals is paged attention.
-/
module

public import proofs.«01_k».proof.Proof.Gen.ReferenceIdeal.Run
public import proofs.«01_k».proof.Proof.Attention

@[expose] public section

noncomputable section

namespace Cert.ReferenceIdeal.Value

open Cert.ReferenceIdeal Cert.ReferenceIdeal.Gen
open Idealize.ShloMosaic
open Cert.SplitSoftmax Cert.Attention

/-- How pages are taken by a table of words. -/
abbrev takePages : GatherDims S128x16x8x64 S8x64x1 S8x64x16x8x64 := gather_S128x16x8x64_S8x64x1_S8x64x16x8x64_234_0_n_n_0_2_116864

/-- Taking pages by a table: entry `(b, s, r, h, d)` is row `r` of the page that word `(b, s)` names. -/
theorem taken_at (x : Vec Ideal S128x16x8x64 .bf16) (bt : Vec Ideal S8x64 .i32) (b : Fin 8) (s : Fin 64) (r : Fin 16) (h : Fin 8) (d : Fin 64) :
    Host.gather gather_S128x16x8x64_S8x64x1_S8x64x16x8x64_234_0_n_n_0_2_116864 x
        (broadcastInDim S8x64x1 ![0, 1] bcast_S8x64_S8x64x1_0_1 bt) (ix5 b s r h d)
      = x (ix4 (page (bt (ix2 b s))) r h d) := by
  have hs : ∀ a, takePages.start (ix5 b s r h d) (broadcastInDim S8x64x1 ![0, 1] bcast_S8x64_S8x64x1_0_1 bt) a = if a = 0 then (page (bt (ix2 b s))).val else 0 := by
    intro a
    unfold GatherDims.start
    by_cases ha : a = 0
    · subst ha
      have h0 : (0 : Fin S128x16x8x64.rank) ∈ takePages.startIndexMap := List.mem_singleton.mpr rfl
      rw [dif_pos h0, if_pos rfl]
      refine congrArg (fun w : BitVec 32 => min w.toInt.toNat 127) ?_
      refine congrArg bt (funext fun e => Fin.ext ?_)
      match e with
      | ⟨0, _⟩ => rfl
      | ⟨1, _⟩ => rfl
    · have h0 : a ∉ takePages.startIndexMap := fun hm => ha (List.mem_singleton.mp hm)
      rw [dif_neg h0, if_neg ha]
  have hk : takePages.sKept = [1, 2, 3] := by decide
  unfold Host.gather
  refine congrArg x (funext fun a => Fin.ext ?_)
  show takePages.start _ _ a + takePages.batchCoord _ a + takePages.offCoord _ a = _
  rw [hs, GatherDims.batchCoord_eq_zero _ _ _ List.not_mem_nil]
  unfold GatherDims.offCoord
  simp only [hk]
  match a with
  | ⟨0, _⟩ => simp
  | ⟨1, _⟩ => simp
  | ⟨2, _⟩ => simp
  | ⟨3, _⟩ => simp

/-- What the reference reads for a table entry that may be masked. -/
theorem entry_at (len : BitVec 32) (k : Fin 1024) (x : Fin 2 × Fin 1024 → ℝ) (p : Fin 2 × Fin 1024) :
    Scalar.select (IntOp.cmpi .slt (BitVec.ofNat 32 (k.val / 16)) len) ((x p : ℝ) : EReal) (⊥ : EReal)
      = if used len k then ((x p : ℝ) : EReal) else ⊥ := by
  have e : (BitVec.ofNat 32 (k.val / 16)).toInt = ((k.val / 16 : ℕ) : ℤ) := by
    rw [BitVec.toInt_ofNat']
    have := k.isLt
    rw [Int.bmod_def]; norm_num; omega
  have c : IntOp.cmpi .slt (BitVec.ofNat 32 (k.val / 16)) len = 1 ↔ used len k := by
    rw [show (1 : BitVec 1) = 1#1 from rfl, IntOp.cmpi_slt, e]; rfl
  unfold Scalar.select
  simp only [c]

section Result

variable (Q : Vec Ideal S8x1x8x64 .bf16) (K V : Vec Ideal S128x16x8x64 .bf16) (bt : Vec Ideal S8x64 .i32) (lens : Vec Ideal S8 .i32)
  (b h : Fin 8) (d : Fin 64)

/-- Entry `d` of row `k` of the pages taken for batch element `b`, head `h`. -/
def taken (x : Vec Ideal S128x16x8x64 .bf16) (k : Fin 1024) (d : Fin 64) : EReal :=
  Host.gather takePages x (broadcastInDim S8x64x1 ![0, 1] bcast_S8x64_S8x64x1_0_1 bt)
    (ix5 b (⟨k.val / 16, by omega⟩ : Fin 64) (⟨k.val % 16, by omega⟩ : Fin 16) h d)

/-- What the reference gathers for entry `k` is the row that the entry names. -/
theorem taken_row (x : Vec Ideal S128x16x8x64 .bf16) (k : Fin 1024) :
    taken bt b h x k d = x (ix4 (pageOf (row (fun s => bt (ix2 b s)) k)) (rowOf (row (fun s => bt (ix2 b s)) k)) h d) := by
  rw [pageOf_row, rowOf_row]
  exact taken_at x bt b _ _ h d

/-- The reference's masked score of entry `k`. -/
def masked (k : Fin 1024) : EReal :=
  Scalar.select (IntOp.cmpi .slt (BitVec.ofNat 32 (k.val / 16)) (lens (ix1 b)))
    ((∑ d : Fin 64, Q (ix4 b 0 h d) * taken bt b h K k d) * Ideal.ofBits .f32 0x3E000000#32) (Ideal.ofBits .f32 0xFF800000#32)

/-- The reference's masked scores are the entries of the plain softmax. -/
theorem masked_entry (hQ : ∀ i, ∃ r : ℝ, Q i = (r : EReal)) (hK : ∀ i, ∃ r : ℝ, K i = (r : EReal)) :
    masked Q K bt lens b h = entry (used (lens (ix1 b))) (row fun s => bt (ix2 b s)) (fun p => (keyScore Q K b h p).toReal) := by
  funext k
  unfold masked entry
  rw [negInf]
  refine Eq.trans ?_ (entry_at (lens (ix1 b)) k (fun p => (keyScore Q K b h p).toReal) (row (fun s => bt (ix2 b s)) k))
  refine congrArg (fun a => Scalar.select _ a _) ?_
  show _ = (((keyScore Q K b h (row (fun s => bt (ix2 b s)) k)).toReal : ℝ) : EReal)
  rw [← keyScore_real Q K b h hQ hK]
  unfold keyScore
  refine congrArg (· * _) (Finset.sum_congr rfl fun d _ => ?_)
  rw [taken_row, mul_comm]

/-- The reference's result at one index. -/
theorem result_at (m : (ℓ : Loc nD τ sig) → Buf (Elt Ideal) ℓ)
    (eQ : m (((0 : Dev nD).tc : Thread nD τ).loc main_arg0) = Q) (eK : m (((0 : Dev nD).tc : Thread nD τ).loc main_arg1) = K)
    (eV : m (((0 : Dev nD).tc : Thread nD τ).loc main_arg2) = V) (eB : m (((0 : Dev nD).tc : Thread nD τ).loc main_arg3) = bt)
    (eL : m (((0 : Dev nD).tc : Thread nD τ).loc main_arg4) = lens)
    (hQ : ∀ i, ∃ r : ℝ, Q i = (r : EReal)) (hK : ∀ i, ∃ r : ℝ, K i = (r : EReal)) :
    (res_main_v28 (F := Ideal) m 0 : Vec Ideal S8x1x8x64 .f32) (ix4 b 0 h d) = attention Q K V b h d bt lens := by
  pointwise [res_main_v28]
  rw [eQ, eK, eV, eB, eL]
  change (∑ k : Fin 1024, Ideal.div
      (Ideal.exp (masked Q K bt lens b h k - Finset.univ.fold max (Ideal.ofBits .f32 0xFF800000#32) (masked Q K bt lens b h)))
      (∑ k : Fin 1024, Ideal.exp (masked Q K bt lens b h k - Finset.univ.fold max (Ideal.ofBits .f32 0xFF800000#32) (masked Q K bt lens b h)))
      * taken bt b h V k d) = _
  rw [masked_entry Q K bt lens b h hQ hK, negInf]
  unfold attention plain top value
  refine Finset.sum_congr rfl fun k _ => ?_
  rw [taken_row]

end Result

end Cert.ReferenceIdeal.Value

end
-- ==== Proof.Precondition.lean ====
/-
What the precondition says, read off the program that states it.
-/
module

public import proofs.«01_k».proof.Proof.Gen.Pre_well_posed_KernelIdeal
public import Idealize.ShloMosaic.Lib.Pointwise
public import Idealize.ShloMosaic.Lib.ReduceAll
public import Idealize.ShloMosaic.Lib.Affine

@[expose] public section

noncomputable section

namespace Cert.Pre_well_posed_KernelIdeal

open Cert.Pre_well_posed_KernelIdeal.Gen
open Idealize.ShloMosaic

/-- An extended real whose absolute value is below `+∞` is a real number. -/
theorem real_of_abs (x : EReal) (h : FloatOps.cmpf (F := Ideal) (φ := .f32) .olt (FloatOps.absf (F := Ideal) (φ := .f32) x) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | coe r => exact ⟨r, rfl⟩
  | bot =>
    have hb : FloatOps.absf (F := Ideal) (φ := .f32) (⊥ : EReal) = ⊤ := show max (⊥ : EReal) (-⊥) = ⊤ by simp
    rw [hb] at h
    simp [FloatOps.cmpf, Ideal.cmp] at h
  | top =>
    have hb : FloatOps.absf (F := Ideal) (φ := .f32) (⊤ : EReal) = ⊤ := show max (⊤ : EReal) (-⊤) = ⊤ by simp
    rw [hb] at h
    simp [FloatOps.cmpf, Ideal.cmp] at h

instance : Subsingleton S_.Idx := ⟨fun a b => funext fun i => i.elim0⟩

/-- Queries and keys are real, no sequence is empty, and every slot in use names one of the 128 pages. -/
theorem reads (Q : Vec Ideal S8x1x8x64 .bf16) (K V : Vec Ideal S64x16x8x64 .bf16) (bt : Vec Ideal S8x64 .i32) (lens : Vec Ideal S8 .i32)
    (h : fn (F := Ideal) Q K V bt lens = fun _ => 1#1) :
    (∀ i, ∃ r : ℝ, Q i = (r : EReal)) ∧ (∀ i, ∃ r : ℝ, K i = (r : EReal)) ∧ (∀ b : Fin 8, 1 ≤ (lens (ix1 b)).toInt)
      ∧ ∀ (b : Fin 8) (s : Fin 64), (s.val : ℤ) < (lens (ix1 b)).toInt → 0 ≤ (bt (ix2 b s)).toInt ∧ (bt (ix2 b s)).toInt < 128 := by
  have h0 := congrFun h ix0
  unfold fn fn_part1 at h0
  obtain ⟨h1, hb⟩ := IntOp.andi_eq_one.1 h0
  obtain ⟨h2, hl⟩ := IntOp.andi_eq_one.1 h1
  obtain ⟨hq, hk⟩ := IntOp.andi_eq_one.1 h2
  refine ⟨fun i => real_of_abs _ ?_, fun i => real_of_abs _ ?_, fun b => ?_, fun b s hs => ?_⟩
  · exact Host.reduce_andi_all _ _ _ _ _ hq i
  · exact Host.reduce_andi_all _ _ _ _ _ hk i
  · have := Host.reduce_andi_all _ _ _ _ _ hl (ix1 b)
    exact IntOp.cmpi_sge.1 this
  · have := Host.reduce_andi_all _ _ _ _ _ hb (ix2 b s)
    pointwise at this
    have hn : (BitVec.ofNat 32 s.val).toInt = s.val := by
      have := s.isLt
      rw [BitVec.toInt_eq_toNat_of_lt] <;> simp only [BitVec.toNat_ofNat] <;> omega
    rcases IntOp.ori_eq_one.1 this with h3 | h3
    · have := IntOp.cmpi_sge.1 h3
      omega
    · obtain ⟨h4, h5⟩ := IntOp.andi_eq_one.1 h3
      exact ⟨IntOp.cmpi_sge.1 h4, IntOp.cmpi_slt.1 h5⟩

end Cert.Pre_well_posed_KernelIdeal

end
-- ==== Proof.Algebraic.lean ====
/-
The kernel and the reference compute the same attention over the extended reals.
-/
module

public import proofs.«01_k».proof.Defs
public import proofs.«01_k».proof.Proof.KernelIdealLaunch
public import proofs.«01_k».proof.Proof.KernelIdealResult
public import proofs.«01_k».proof.Proof.ReferenceIdealValue
public import proofs.«01_k».proof.Proof.Precondition

@[expose] public section

noncomputable section

namespace Cert.Proof

open Idealize.ShloMosaic Idealize.ShloMosaic.TcCoe Idealize.SL.Sem
open Cert.KernelIdeal.Value Cert.KernelIdeal.Exchange Cert.Attention

/-- Keys that are real in every device's half of the pool are real in the whole pool. -/
theorem keys_real (K : Vec Ideal ⟨4, ![128, 16, 8, 64]⟩ .bf16)
    (h : ∀ (c : Dev Cert.KernelIdeal.nD) i, ∃ r : ℝ,
      (Layout.blockN ⟨4, ![64, 16, 8, 64]⟩ ⟨4, ![128, 16, 8, 64]⟩ (Layout.meshBlock [2, 2, 2] ![[2], [], [], []] c) K) i = (r : EReal)) :
    ∀ i, ∃ r : ℝ, K i = (r : EReal) := by
  intro i
  have h0 : (i 0).val < 128 := (i 0).isLt
  have h1 : (i 1).val < 16 := (i 1).isLt
  let c : Dev Cert.KernelIdeal.nD := ⟨(i 0).val / 64, show _ < 8 by omega⟩
  let t : Fin 1024 := ⟨16 * ((i 0).val % 64) + (i 1).val, by omega⟩
  obtain ⟨r, hr⟩ := h c (ix4 ⟨t.val / 16, by omega⟩ ⟨t.val % 16, by omega⟩ (i 2) (i 3))
  refine ⟨r, Eq.trans (congrArg K ?_) ((half_at K c t (i 2) (i 3)).symm.trans hr)⟩
  have hc : (half c).val = (i 0).val / 64 := show (i 0).val / 64 % 2 = _ by omega
  have ht : t.val = 16 * ((i 0).val % 64) + (i 1).val := rfl
  funext a
  fin_cases a
  · refine Fin.ext ?_
    show (i 0).val = 64 * (half c).val + t.val / 16
    omega
  · refine Fin.ext ?_
    show (i 1).val = t.val % 16
    omega
  · rfl
  · rfl

/-- On queries and keys that are real numbers, sequences that are not empty and slots in use that name a page, every device
    ends holding the reference's attention. -/
theorem algebraic : Cert.algebraic_KernelIdeal_ReferenceIdeal_pre_well_posed_KernelIdeal := by
  intro m g m' g' hpre hargs
  have hread := fun c => Cert.Pre_well_posed_KernelIdeal.reads _ _ _ _ _ (hpre c)
  have hQ := (hread 0).1
  have hL := (hread 0).2.2.1
  have hB := (hread 0).2.2.2
  rw [(hargs 0).1] at hQ
  rw [(hargs 0).2.2.2.2] at hL
  rw [(hargs 0).2.2.2.1, (hargs 0).2.2.2.2] at hB
  have hK := keys_real _ fun c i => by
    have := (hread c).2.1 i
    rw [(hargs c).2.1] at this
    exact this
  have held : ∀ c, Holds m _ _ _ _ _ c := fun c =>
    ⟨(inQ_eq m c).trans (hargs c).1, (inK_eq m c).trans (hargs c).2.1, (inV_eq m c).trans (hargs c).2.2.1,
      (inBt_eq m c).trans (hargs c).2.2.2.1, (inLen_eq m c).trans (hargs c).2.2.2.2⟩
  have same : ∀ c, outBlock m c = Cert.ReferenceIdeal.Value.res_main_v28 (F := Ideal) m' 0 := by
    intro c
    funext i
    have h0 : (i 0).val < 8 := (i 0).isLt
    have h2 : (i 2).val < 8 := (i 2).isLt
    have hi : i = ix4 (i 0) 0 (i 2) (i 3) := by
      funext a
      fin_cases a
      · rfl
      · exact Fin.ext (by have := (i 1).isLt; show (i 1).val = 0; exact Nat.lt_one_iff.1 this)
      · rfl
      · rfl
    refine (combined_at hQ hK hB hL (held c) (i 0) (i 2) ⟨8 * (i 2).val + (i 0).val, by omega⟩ rfl (held _) (i 3)).trans ?_
    refine (Cert.ReferenceIdeal.Value.result_at _ _ _ _ _ (i 0) (i 2) (i 3) m' rfl rfl rfl rfl rfl hQ hK).symm.trans ?_
    exact congrArg (Cert.ReferenceIdeal.Value.res_main_v28 (F := Ideal) m' 0) hi.symm
  refine ⟨Cert.ReferenceIdeal.Value.res_main_v28 (F := Ideal) m' 0, ?_, ?_⟩
  · exact (θ_run Cert.KernelIdeal.defs _ _).mono (fun _ h c => ⟨(h.1 c).1.trans (same c), (h.1 c).2⟩) (run_arrays (F := Ideal) m g)
  · exact (θ_run Cert.ReferenceIdeal.defs _ _).mono (fun _ h => h 0) (Cert.ReferenceIdeal.Value.run (F := Ideal) m' g')

end Cert.Proof

end
-- ==== Proof.lean ====
/-
The claims of the certificate, assembled behind the witnesses of the facts the programs state.
-/
module

public import proofs.«01_k».proof.Proof.Gen.ReferenceIdeal.Run
public import proofs.«01_k».proof.Defs
public import proofs.«01_k».proof.Proof.Frames
public import proofs.«01_k».proof.Proof.Algebraic
public import proofs.«01_k».proof.Proof.Gen.Pre_well_posed_KernelIdeal
public import proofs.«01_k».proof.Proof.Gen.Pre_well_posed_ReferenceIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Every claim of the certificate; a run's claim under the precondition is the claim without it. -/
theorem claim : Cert.Claim :=
  ⟨Cert.Kernel.Gen.facts, Cert.KernelIdeal.Gen.facts, Cert.ReferenceIdeal.Gen.facts, Cert.Pre_well_posed_KernelIdeal.Gen.facts,
    Cert.Pre_well_posed_ReferenceIdeal.Gen.facts, frame_p, frame_pi, fun m g _ => frame_pi m g trivial, frame_ri,
    fun m g _ => frame_ri m g trivial, preserves, algebraic⟩

end Cert.Proof

end
